-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S5120 : Shape := ⟨1, ![5120]⟩
abbrev S8x640 : Shape := ⟨2, ![8, 640]⟩
abbrev S1x8x640 : Shape := ⟨3, ![1, 8, 640]⟩
abbrev S1 : Shape := ⟨1, ![1]⟩
abbrev S1x1x1 : Shape := ⟨3, ![1, 1, 1]⟩
abbrev S1x1 : Shape := ⟨2, ![1, 1]⟩

abbrev nBuf : Space → Nat
  | .hbm => 33
  | .vmem => 6
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000x1, .f32⟩
  | .hbm, ⟨3, _⟩ => ⟨S5000, .f32⟩
  | .hbm, ⟨4, _⟩ => ⟨S_, .f32⟩
  | .hbm, ⟨5, _⟩ => ⟨S_, .f32⟩
  | .hbm, ⟨6, _⟩ => ⟨S5120, .f32⟩
  | .hbm, ⟨7, _⟩ => ⟨S8x640, .f32⟩
  | .hbm, ⟨8, _⟩ => ⟨S5000x1, .f32⟩
  | .hbm, ⟨9, _⟩ => ⟨S5000, .f32⟩
  | .hbm, ⟨10, _⟩ => ⟨S_, .f32⟩
  | .hbm, ⟨11, _⟩ => ⟨S_, .f32⟩
  | .hbm, ⟨12, _⟩ => ⟨S5120, .f32⟩
  | .hbm, ⟨13, _⟩ => ⟨S8x640, .f32⟩
  | .hbm, ⟨14, _⟩ => ⟨S5000x1, .f32⟩
  | .hbm, ⟨15, _⟩ => ⟨S5000, .f32⟩
  | .hbm, ⟨16, _⟩ => ⟨S_, .f32⟩
  | .hbm, ⟨17, _⟩ => ⟨S_, .f32⟩
  | .hbm, ⟨18, _⟩ => ⟨S5120, .f32⟩
  | .hbm, ⟨19, _⟩ => ⟨S8x640, .f32⟩
  | .hbm, ⟨20, _⟩ => ⟨S5000x1, .f32⟩
  | .hbm, ⟨21, _⟩ => ⟨S5000, .f32⟩
  | .hbm, ⟨22, _⟩ => ⟨S_, .f32⟩
  | .hbm, ⟨23, _⟩ => ⟨S_, .f32⟩
  | .hbm, ⟨24, _⟩ => ⟨S5120, .f32⟩
  | .hbm, ⟨25, _⟩ => ⟨S8x640, .f32⟩
  | .hbm, ⟨26, _⟩ => ⟨S_, .f32⟩
  | .hbm, ⟨27, _⟩ => ⟨S_, .f32⟩
  | .hbm, ⟨28, _⟩ => ⟨S5120, .f32⟩
  | .hbm, ⟨29, _⟩ => ⟨S8x640, .f32⟩
  | .hbm, ⟨30, _⟩ => ⟨S8x640, .f32⟩
  | .hbm, ⟨31, _⟩ => ⟨S5120, .f32⟩
  | .hbm, ⟨32, _⟩ => ⟨S5000, .f32⟩
  | .local _ .vmem, ⟨0, _⟩ => ⟨S8x640, .f32⟩
  | .local _ .vmem, ⟨1, _⟩ => ⟨S8x640, .f32⟩
  | .local _ .vmem, ⟨2, _⟩ => ⟨S8x640, .f32⟩
  | .local _ .vmem, ⟨3, _⟩ => ⟨S8x640, .f32⟩
  | .local _ .vmem, ⟨4, _⟩ => ⟨S8x640, .f32⟩
  | .local _ .vmem, ⟨5, _⟩ => ⟨S8x640, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call4_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S1x4 : Shape := ⟨2, ![1, 4]⟩
abbrev S4 : Shape := ⟨1, ![4]⟩
abbrev S1 : Shape := ⟨1, ![1]⟩
abbrev S5000x1 : Shape := ⟨2, ![5000, 1]⟩

abbrev nBuf : Space → Nat
  | .hbm => 135
  | .vmem => 0
  | .smem => 0
  | _ => 0

abbrev hbmTy0_0 (i : Nat) : BufTy := match i % 128 with
  | 0 => ⟨S5000x4, .f32⟩
  | 1 => ⟨S5000, .f32⟩
  | 2 => ⟨S_, .i1⟩
  | 3 => ⟨S5000, .i1⟩
  | 4 => ⟨S_, .i32⟩
  | 5 => ⟨S5000x4, .f32⟩
  | 6 => ⟨S_, .i32⟩
  | 7 => ⟨S5000, .f32⟩
  | 8 => ⟨S5000, .i1⟩
  | 9 => ⟨S_, .i32⟩
  | 10 => ⟨S_, .i1⟩
  | 11 => ⟨S_, .f32⟩
  | 12 => ⟨S_, .f32⟩
  | 13 => ⟨S5000, .f32⟩
  | 14 => ⟨S5000, .f32⟩
  | 15 => ⟨S5000, .i32⟩
  | 16 => ⟨S_, .f32⟩
  | 17 => ⟨S_, .i32⟩
  | 18 => ⟨S_, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x4, .f32⟩
  | 34 => ⟨S4, .f32⟩
  | 35 => ⟨S1, .f32⟩
  | 36 => ⟨S_, .f32⟩
  | 37 => ⟨S5000x1, .f32⟩
  | 38 => ⟨S5000, .f32⟩
  | 39 => ⟨S5000, .f32⟩
  | 40 => ⟨S5000, .f32⟩
  | 41 => ⟨S1, .f32⟩
  | 42 => ⟨S_, .f32⟩
  | 43 => ⟨S5000x1, .f32⟩
  | 44 => ⟨S5000, .f32⟩
  | 45 => ⟨S5000, .f32⟩
  | 46 => ⟨S5000, .f32⟩
  | 47 => ⟨S1, .f32⟩
  | 48 => ⟨S_, .f32⟩
  | 49 => ⟨S5000x1, .f32⟩
  | 50 => ⟨S5000, .f32⟩
  | 51 => ⟨S5000, .f32⟩
  | 52 => ⟨S5000, .f32⟩
  | 53 => ⟨S1, .f32⟩
  | 54 => ⟨S_, .f32⟩
  | 55 => ⟨S5000x1, .f32⟩
  | 56 => ⟨S5000, .f32⟩
  | 57 => ⟨S5000, .f32⟩
  | 58 => ⟨S5000, .f32⟩
  | 59 => ⟨S5000, .f32⟩
  | 60 => ⟨S_, .f32⟩
  | 61 => ⟨S_, .f32⟩
  | 62 => ⟨S5000, .f32⟩
  | 63 => ⟨S5000, .f32⟩
  | 64 => ⟨S5000, .f32⟩
  | 65 => ⟨S_, .f32⟩
  | 66 => ⟨S_, .f32⟩
  | 67 => ⟨S5000, .f32⟩
  | 68 => ⟨S5000, .f32⟩
  | 69 => ⟨S5000, .f32⟩
  | 70 => ⟨S1, .f32⟩
  | 71 => ⟨S_, .f32⟩
  | 72 => ⟨S1, .f32⟩
  | 73 => ⟨S_, .f32⟩
  | 74 => ⟨S_, .f32⟩
  | 75 => ⟨S1, .f32⟩
  | 76 => ⟨S_, .f32⟩
  | 77 => ⟨S1, .f32⟩
  | 78 => ⟨S_, .f32⟩
  | 79 => ⟨S_, .f32⟩
  | 80 => ⟨S_, .f32⟩
  | 81 => ⟨S5000x1, .f32⟩
  | 82 => ⟨S5000, .f32⟩
  | 83 => ⟨S5000x1, .f32⟩
  | 84 => ⟨S5000, .f32⟩
  | 85 => ⟨S5000, .f32⟩
  | 86 => ⟨S5000x1, .f32⟩
  | 87 => ⟨S5000, .f32⟩
  | 88 => ⟨S5000x1, .f32⟩
  | 89 => ⟨S5000, .f32⟩
  | 90 => ⟨S5000, .f32⟩
  | 91 => ⟨S5000, .f32⟩
  | 92 => ⟨S5000, .f32⟩
  | 93 => ⟨S5000, .f32⟩
  | 94 => ⟨S5000, .f32⟩
  | 95 => ⟨S_, .f32⟩
  | 96 => ⟨S5000, .f32⟩
  | 97 => ⟨S5000, .f32⟩
  | 98 => ⟨S5000, .f32⟩
  | 99 => ⟨S5000, .f32⟩
  | 100 => ⟨S5000, .f32⟩
  | 101 => ⟨S_, .f32⟩
  | 102 => ⟨S5000, .f32⟩
  | 103 => ⟨S5000, .f32⟩
  | 104 => ⟨S5000, .f32⟩
  | 105 => ⟨S_, .f32⟩
  | 106 => ⟨S_, .f32⟩
  | 107 => ⟨S5000, .f32⟩
  | 108 => ⟨S5000, .f32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S_, .f32⟩
  | 116 => ⟨S5000, .f32⟩
  | 117 => ⟨S5000, .f32⟩
  | 118 => ⟨S_, .i32⟩
  | 119 => ⟨S_, .i1⟩
  | 120 => ⟨S_, .i32⟩
  | 121 => ⟨S_, .i32⟩
  | 122 => ⟨S_, .i32⟩
  | 123 => ⟨S1, .i32⟩
  | 124 => ⟨S_, .i1⟩
  | 125 => ⟨S5000, .i1⟩
  | 126 => ⟨S_, .i32⟩
  | 127 => ⟨S_, .i32⟩
  | _ => ⟨S5000x4, .f32⟩

abbrev hbmTy0_1 (i : Nat) : BufTy := match i % 128 with
  | 0 => ⟨S_, .f32⟩
  | 1 => ⟨S5000, .f32⟩
  | 2 => ⟨S5000, .i1⟩
  | 3 => ⟨S_, .f32⟩
  | 4 => ⟨S_, .f32⟩
  | 5 => ⟨S5000, .f32⟩
  | 6 => ⟨S5000, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_while0c_c_5 : Ref sig .tc := ⟨.hbm, 9, rfl⟩
abbrev main_while0c_v5 : Ref sig .tc := ⟨.hbm, 10, rfl⟩
abbrev main_while0b_cst_5 : Ref sig .tc := ⟨.hbm, 11, rfl⟩
abbrev main_while0b_call0_v0 : Ref sig .tc := ⟨.hbm, 12, rfl⟩
abbrev main_while0b_call0_v1 : Ref sig .tc := ⟨.hbm, 13, rfl⟩
abbrev main_while0b_v5 : Ref sig .tc := ⟨.hbm, 14, rfl⟩
abbrev main_while0b_call1_v0 : Ref sig .tc := ⟨.hbm, 15, rfl⟩
abbrev main_while0b_call1_cst : Ref sig .tc := ⟨.hbm, 16, rfl⟩
abbrev main_while0b_call1_c : Ref sig .tc := ⟨.hbm, 17, rfl⟩
abbrev main_while0b_call1_v1_0 : Ref sig .tc := ⟨.hbm, 18, rfl⟩
abbrev main_while0b_v6 : Ref sig .tc := ⟨.hbm, 19, rfl⟩
abbrev main_while0b_c_6 : Ref sig .tc := ⟨.hbm, 20, rfl⟩
abbrev main_while0b_v7 : Ref sig .tc := ⟨.hbm, 21, rfl⟩
abbrev main_while0b_c_7 : Ref sig .tc := ⟨.hbm, 22, rfl⟩
abbrev main_while0b_v8 : Ref sig .tc := ⟨.hbm, 23, rfl⟩
abbrev main_while0b_v9 : Ref sig .tc := ⟨.hbm, 24, rfl⟩
abbrev main_while0b_c_8 : Ref sig .tc := ⟨.hbm, 25, rfl⟩
abbrev main_while0b_c_9 : Ref sig .tc := ⟨.hbm, 26, rfl⟩
abbrev main_while0b_v10 : Ref sig .tc := ⟨.hbm, 27, rfl⟩
abbrev main_while0b_c_10 : Ref sig .tc := ⟨.hbm, 28, rfl⟩
abbrev main_while0b_c_11 : Ref sig .tc := ⟨.hbm, 29, rfl⟩
abbrev main_while0b_v11 : Ref sig .tc := ⟨.hbm, 30, rfl⟩
abbrev main_while0b_c_12 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_cst_13 : Ref sig .tc := ⟨.hbm, 60, rfl⟩
abbrev main_while0b_call2_v0 : Ref sig .tc := ⟨.hbm, 61, rfl⟩
abbrev main_while0b_call2_v1 : Ref sig .tc := ⟨.hbm, 62, rfl⟩
abbrev main_while0b_v40 : Ref sig .tc := ⟨.hbm, 63, rfl⟩
abbrev main_while0b_v41 : Ref sig .tc := ⟨.hbm, 64, rfl⟩
abbrev main_while0b_cst_14 : Ref sig .tc := ⟨.hbm, 65, rfl⟩
abbrev main_while0b_call3_v0 : Ref sig .tc := ⟨.hbm, 66, rfl⟩
abbrev main_while0b_call3_v1 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_v60 : Ref sig .tc := ⟨.hbm, 86, rfl⟩
abbrev main_while0b_v61 : Ref sig .tc := ⟨.hbm, 87, rfl⟩
abbrev main_while0b_v62 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_cst_15 : Ref sig .tc := ⟨.hbm, 95, rfl⟩
abbrev main_while0b_v69 : Ref sig .tc := ⟨.hbm, 96, rfl⟩
abbrev main_while0b_v70 : Ref sig .tc := ⟨.hbm, 97, rfl⟩
abbrev main_while0b_v71 : Ref sig .tc := ⟨.hbm, 98, rfl⟩
abbrev main_while0b_v72 : Ref sig .tc := ⟨.hbm, 99, rfl⟩
abbrev main_while0b_v73 : Ref sig .tc := ⟨.hbm, 100, rfl⟩
abbrev main_while0b_cst_16 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_cst_17 : Ref sig .tc := ⟨.hbm, 105, rfl⟩
abbrev main_while0b_call4_v0 : Ref sig .tc := ⟨.hbm, 106, rfl⟩
abbrev main_while0b_call4_v1 : Ref sig .tc := ⟨.hbm, 107, rfl⟩
abbrev main_while0b_v77 : Ref sig .tc := ⟨.hbm, 108, rfl⟩
abbrev main_while0b_c_18 : Ref sig .tc := ⟨.hbm, 109, rfl⟩
abbrev main_while0b_v78 : Ref sig .tc := ⟨.hbm, 110, rfl⟩
abbrev main_while0b_c_19 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_cst_20 : Ref sig .tc := ⟨.hbm, 115, rfl⟩
abbrev main_while0b_v82 : Ref sig .tc := ⟨.hbm, 116, rfl⟩
abbrev main_while0b_v83 : Ref sig .tc := ⟨.hbm, 117, rfl⟩
abbrev main_while0b_c_21 : Ref sig .tc := ⟨.hbm, 118, rfl⟩
abbrev main_while0b_v84 : Ref sig .tc := ⟨.hbm, 119, rfl⟩
abbrev main_while0b_c_22 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_c_23 : Ref sig .tc := ⟨.hbm, 124, rfl⟩
abbrev main_while0b_v88 : Ref sig .tc := ⟨.hbm, 125, rfl⟩
abbrev main_while0b_c_24 : Ref sig .tc := ⟨.hbm, 126, rfl⟩
abbrev main_while0b_v89 : Ref sig .tc := ⟨.hbm, 127, rfl⟩
abbrev main_cst : Ref sig .tc := ⟨.hbm, 128, rfl⟩
abbrev main_v2 : Ref sig .tc := ⟨.hbm, 129, rfl⟩
abbrev main_v3 : Ref sig .tc := ⟨.hbm, 130, rfl⟩
abbrev main_cst_1 : Ref sig .tc := ⟨.hbm, 131, rfl⟩
abbrev main_call5_v0 : Ref sig .tc := ⟨.hbm, 132, rfl⟩
abbrev main_call5_v1 : Ref sig .tc := ⟨.hbm, 133, rfl⟩
abbrev main_v4 : Ref sig .tc := ⟨.hbm, 134, rfl⟩

abbrev nD : Nat := 1
abbrev τ : Topo := Topo.v7x

variable {F : FTy → Type} [FloatOps F]

abbrev main_while0_count : Scf.Loop 32 := ⟨0#32, 5000#32, 1#32⟩
-- ==== Proof.Ker.Loop.lean ====
/-
  The kernel's while loop as a function. A carry is what the loop hands from trip to trip (the working scores, the
  decided outputs, the current maximum as a tile and as a scalar); `trip` is one trip of it, `Again` the loop's test, and
  `Runs k s` says that from the carry `s` the loop makes exactly `k` trips. The loop's label, entered at a carry from
  which it makes `k` trips, returns `trip` iterated `k` times (`label_le`): by induction on `k`, the variant being the
  trips still to make. Nothing here depends on the meaning of the float operations.
-/
module

public import proofs.«01_k».proof.Proof.Gen.KernelIdeal.Skeleton
public import Idealize.ShloMosaic.Lib.Pipeline.Sound
public import Idealize.ShloMosaic.Lib.Pipeline.Kit
public import Idealize.ShloMosaic.Lib.Tactic

@[expose] public section

noncomputable section

namespace Cert.Ker

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the loop carries: working scores, decided outputs, the maximum of the working scores as a tile and as a scalar. -/
abbrev Carry (F : FTy → Type) : Type := FVec F S8x640 .f32 × FVec F S8x640 .f32 × FVec F S1x1 .f32 × F .f32

/-- Minus infinity, as the body's code writes it. -/
abbrev negInf : F .f32 := Scalar.ofBits .f32 0xFF800000#32

/-- The loop's test on a carry: its maximum is above the threshold. -/
abbrev Again (s : Carry F) : Prop := Scalar.cmpf .ogt s.2.2.2 (Scalar.ofBits .f32 0x3D4CCCCD#32) = 1#1

section Trip

variable (x1 y1 x2 y2 area : FVec F S8x640 .f32)

/-- The working scores after one trip. -/
def tripW (s : Carry F) : FVec F S8x640 .f32 :=
  k0_pay12 negInf area s.1 (k0_pay15 k0_pay6 s.1 s.2.2.1) (k0_pay17 k0_pay6 negInf x1 s.1 s.2.2.1) (k0_pay18 k0_pay6 negInf y1 s.1 s.2.2.1)
    (k0_pay19 k0_pay6 negInf x2 s.1 s.2.2.1) (k0_pay20 k0_pay6 negInf y2 s.1 s.2.2.1) (k0_pay21 k0_pay6 negInf x1 x2 s.1 s.2.2.1)
    (k0_pay22 k0_pay6 negInf y2 s.1 s.2.2.1) (k0_pay23 k0_pay6 negInf y1 s.1 s.2.2.1)

/-- The largest entry of a tile, as the kernel reduces it. -/
def tileMax (w : FVec F S8x640 .f32) : F .f32 :=
  extractAt ![0, 0, 0] (shapeCast S1x1x1 (multiReduction .maximumf [1, 2] S1 (shapeCast S1x8x640 w shapeCasts_S8x640_S1x8x640)
    0xFF800000#32 reduces_S1x8x640_S1 (.inl rfl) rfl) shapeCasts_S1_S1x1x1) inpos_S1x1x1_p0_0_0

/-- A carry whose maximum is read off its working scores. -/
def mkCarry (w out : FVec F S8x640 .f32) : Carry F :=
  (w, out, broadcast S1x1 (tileMax w), extractAt ![0, 0] (broadcast S1x1 (tileMax w) : FVec F S1x1 .f32) inpos_S1x1_p0_0)

/-- One trip of the loop. -/
def trip (s : Carry F) : Carry F :=
  (tripW x1 y1 x2 y2 area s, k0_pay16 k0_pay6 s.1 s.2.1 s.2.2.1,
   k0_pay13 negInf area s.1 (k0_pay15 k0_pay6 s.1 s.2.2.1) (k0_pay17 k0_pay6 negInf x1 s.1 s.2.2.1) (k0_pay18 k0_pay6 negInf y1 s.1 s.2.2.1)
    (k0_pay19 k0_pay6 negInf x2 s.1 s.2.2.1) (k0_pay20 k0_pay6 negInf y2 s.1 s.2.2.1) (k0_pay21 k0_pay6 negInf x1 x2 s.1 s.2.2.1)
    (k0_pay22 k0_pay6 negInf y2 s.1 s.2.2.1) (k0_pay23 k0_pay6 negInf y1 s.1 s.2.2.1),
   k0_pay14 negInf area s.1 (k0_pay15 k0_pay6 s.1 s.2.2.1) (k0_pay17 k0_pay6 negInf x1 s.1 s.2.2.1) (k0_pay18 k0_pay6 negInf y1 s.1 s.2.2.1)
    (k0_pay19 k0_pay6 negInf x2 s.1 s.2.2.1) (k0_pay20 k0_pay6 negInf y2 s.1 s.2.2.1) (k0_pay21 k0_pay6 negInf x1 x2 s.1 s.2.2.1)
    (k0_pay22 k0_pay6 negInf y2 s.1 s.2.2.1) (k0_pay23 k0_pay6 negInf y1 s.1 s.2.2.1))

/-- A trip's carry has its maximum read off its working scores. -/
theorem trip_eq (s : Carry F) :
    trip x1 y1 x2 y2 area s = mkCarry (tripW x1 y1 x2 y2 area s) (k0_pay16 k0_pay6 s.1 s.2.1 s.2.2.1) := by
  unfold trip k0_pay14 k0_pay13 mkCarry tileMax tripW
  rfl

/-- From the carry `s` the loop makes exactly `k` trips. -/
def Runs : ℕ → Carry F → Prop
  | 0, s => ¬Again s
  | k + 1, s => Again s ∧ Runs k (trip x1 y1 x2 y2 area s)

/-- The record the loop's label is called with at the carry `s`. -/
abbrev record (s : Carry F) : (Λ₀ F).Args (1 : (Λ₀ F).Label) :=
  ⟨k0_pay6, negInf, x1, y1, x2, y2, area, s.1, s.2.1, s.2.2.1, s.2.2.2⟩

/-- The label's specification from a carry with `k` trips to make: it returns the carry after them. -/
def spec (k : ℕ) (s : Carry F) : sWPT 𝕄 (Carry F) := do
  pure ((trip x1 y1 x2 y2 area)^[k] s)

theorem spec_apply (k : ℕ) (s : Carry F) (K : Carry F → sProp 𝕄) :
    spec x1 y1 x2 y2 area k s K = K ((trip x1 y1 x2 y2 area)^[k] s) := rfl

set_option maxRecDepth 65536 in
/-- The loop's code at a carry: the test, then the trip's values handed to the label again. -/
theorem while_eq (s : Carry F) :
    cc0_while1 k0_pay6 negInf x1 y1 x2 y2 area s.1 s.2.1 s.2.2.1 s.2.2.2
      = if Again s then Prog.lift (.call (1 : (Λ₀ F).Label) (record x1 y1 x2 y2 area (trip x1 y1 x2 y2 area s))) else pure s := by
  rw [cc0_while1_eq_skeleton]; unfold cc0_while1_skel
  rw [k0_part1_eq_skeleton]; unfold k0_part1_skel
  simp only [Prog.pure_eq_ret, Prog.bind_ret, record, trip, tripW, Again]

/-- The label's body meets the specification entered at the variant `k`. -/
theorem label_le (c : Dev nD) (E : Set ℕ) : ∀ k (s : Carry F), Runs x1 y1 x2 y2 area k s → ∀ K,
    spec x1 y1 x2 y2 area k s K
      ⊢ wp frame (wpE (defs₀ (F := F)) Variants.nat (c : Thread nD τ) (some k)) E (defs₀ (F := F) .tc 1 (record x1 y1 x2 y2 area s)) K := by
  intro k
  induction k with
  | zero =>
    intro s hs K
    rw [spec_apply, Function.iterate_zero, id]
    show _ ⊢ wp frame (wpE (defs₀ (F := F)) Variants.nat (c : Thread nD τ) (some 0)) E
      (cc0_while1 k0_pay6 negInf x1 y1 x2 y2 area s.1 s.2.1 s.2.2.1 s.2.2.2) K
    rw [while_eq, if_neg hs, Prog.pure_eq_ret]
    iintro H
    rw [wp_ret]; imodintro
    iexact H
  | succ k ih =>
    intro s hs K
    rw [spec_apply, Function.iterate_succ_apply]
    show _ ⊢ wp frame (wpE (defs₀ (F := F)) Variants.nat (c : Thread nD τ) (some (k + 1))) E
      (cc0_while1 k0_pay6 negInf x1 y1 x2 y2 area s.1 s.2.1 s.2.2.1 s.2.2.2) K
    rw [while_eq, if_pos hs.1]
    simp only [Prog.lift]
    iintro H
    iapply (wp_call_spec Variants.nat (c : Thread nD τ) (some (k + 1)) E (spec x1 y1 x2 y2 area k (trip x1 y1 x2 y2 area s)) k
      (fun u hu => by cases hu; exact Nat.lt_succ_self k) (ih _ hs.2))
    rw [spec_apply]
    rw [wp_ret]; imodintro
    iexact H

end Trip

/-- The carry the loop starts from, at the loaded scores. -/
def start (v : Vec F S8x640 .f32) : Carry F := (k0_pay7 v, k0_pay8, k0_pay9 v, k0_pay10 v)

/-- Its maximum is read off its working scores, which are the loaded ones. -/
theorem start_eq (v : Vec F S8x640 .f32) : start v = mkCarry (k0_pay7 v) k0_pay8 := by
  unfold start k0_pay10 k0_pay9 mkCarry tileMax
  rfl

/-- The loop halts from the values loaded from the five input buffers. -/
def Halts (v0 v2 v4 v6 v16 : Vec F S8x640 .f32) : Prop :=
  ∃ k, Runs (k0_pay1 v0) (k0_pay2 v2) (k0_pay3 v4) (k0_pay4 v6) (k0_pay5 v0 v2 v4 v6) k (start v16)

open Classical in
/-- The number of trips the loop makes from them (zero if it does not halt). -/
def trips (v0 v2 v4 v6 v16 : Vec F S8x640 .f32) : ℕ :=
  if h : Halts v0 v2 v4 v6 v16 then h.choose else 0

theorem runs_trips (v0 v2 v4 v6 v16 : Vec F S8x640 .f32) (h : Halts v0 v2 v4 v6 v16) :
    Runs (k0_pay1 v0) (k0_pay2 v2) (k0_pay3 v4) (k0_pay4 v6) (k0_pay5 v0 v2 v4 v6) (trips v0 v2 v4 v6 v16) (start v16) := by
  unfold trips; rw [dif_pos h]; exact h.choose_spec

/-- The carry the loop ends with. -/
def final (v0 v2 v4 v6 v16 : Vec F S8x640 .f32) : Carry F :=
  (trip (k0_pay1 v0) (k0_pay2 v2) (k0_pay3 v4) (k0_pay4 v6) (k0_pay5 v0 v2 v4 v6))^[trips v0 v2 v4 v6 v16] (start v16)

/-- The call of the loop's label from the body: it hands its continuation the carry the loop ends with. -/
theorem call_le (c : Dev nD) (E : Set ℕ) (v0 v2 v4 v6 v16 : Vec F S8x640 .f32) (h : Halts v0 v2 v4 v6 v16) {α : Type}
    (k : Carry F → Prog (TpuEff nD τ sig (Elt F) (Λ₀ F) .tc) α) (Q : α → sProp 𝕄) :
    wp frame (wpE (defs₀ (F := F)) Variants.nat (c : Thread nD τ) none) E (k (final v0 v2 v4 v6 v16)) Q
      ⊢ wp frame (wpE (defs₀ (F := F)) Variants.nat (c : Thread nD τ) none) E
          (.op (.call (1 : (Λ₀ F).Label) ⟨k0_pay6, negInf, k0_pay1 v0, k0_pay2 v2, k0_pay3 v4, k0_pay4 v6,
            k0_pay5 v0 v2 v4 v6, k0_pay7 v16, k0_pay8, k0_pay9 v16, k0_pay10 v16⟩) k) Q := by
  have hr := label_le _ _ _ _ _ c E _ _ (runs_trips _ _ _ _ _ h)
  have ha : (⟨k0_pay6, negInf, k0_pay1 v0, k0_pay2 v2, k0_pay3 v4, k0_pay4 v6, k0_pay5 v0 v2 v4 v6, k0_pay7 v16, k0_pay8,
      k0_pay9 v16, k0_pay10 v16⟩ : (Λ₀ F).Args (1 : (Λ₀ F).Label))
      = record (k0_pay1 v0) (k0_pay2 v2) (k0_pay3 v4) (k0_pay4 v6) (k0_pay5 v0 v2 v4 v6) (start v16) := by
    simp only [record, start]
  rw [ha]
  iintro H
  iapply (wp_call_spec Variants.nat (c : Thread nD τ) none E
    (spec (k0_pay1 v0) (k0_pay2 v2) (k0_pay3 v4) (k0_pay4 v6) (k0_pay5 v0 v2 v4 v6) (trips v0 v2 v4 v6 v16) (start v16))
    (trips v0 v2 v4 v6 v16) (fun u hu => nomatch hu) hr)
  rw [spec_apply]
  iexact H

end Cert.Ker

end
-- ==== Proof.Ker.Around.lean ====
/-
  The kernel's launch set-up: @main as host operations, the one region, host operations; the argument arrays untouched by
  both groups of host operations; the input windows' blocks; and the frame's post from a run of the pipeline. None of it
  looks inside the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) (cfgs (F := F)) 0 (defs₀ (F := F)) 𝒱₀ m (main (F := F)) (V m)
      (fun _ => Pipeline.chain ([hostOps1].map StableHlo.seq)) :=
  Pipeline.hmain_around (cfgs (F := F)) 0 (defs₀ (F := F)) 𝒱₀ m main [hostOps0, hostOps0_1, hostOps0_2, hostOps0_3, hostOps0_4, hostOps0_5, hostOps0_6, hostOps0_7, hostOps0_8, hostOps0_9, hostOps0_10] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c))⟩) h

end Cert.Ker

end
-- ==== Proof.Ker.Run.lean ====
/-
  The kernel's run. Given that the loop halts from the blocks the region is entered with, the body's triple (its loads,
  the loop by `label_le`, the covering store), the pipeline's proof data, the launch, and from it the frame.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ker.Loop
public import proofs.«01_k».proof.Proof.Ker.Around
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's accesses -/

abbrev r0_0 : Rect S8x640 := Rect.unit (s := S8x640) ![0, 0] S8x640.size inb_S8x640_S8x640_0_0

/-! ## What the body leaves in the output window's buffer -/

/-- The values loaded from the five input buffers make the loop halt. -/
def HaltsAt (x0 x1 x2 x3 x4 : Vec F S8x640 .f32) : Prop :=
  Halts (View.ld x0 r0_0) (View.ld x1 r0_0) (View.ld x2 r0_0) (View.ld x3 r0_0) (View.ld x4 r0_0)

/-- The output's staging buffer after the body: the thresholded outputs of the carry the loop ends with. -/
def out0_5 (x0 x1 x2 x3 x4 : Vec F S8x640 .f32) : Vec F S8x640 .f32 :=
  View.canon [⟨r0_0, k0_pay11 (final (View.ld x0 r0_0) (View.ld x1 r0_0) (View.ld x2 r0_0) (View.ld x3 r0_0) (View.ld x4 r0_0)).2.1⟩]

/-- Its stores tile the buffer (checked by evaluation), so they cover it. -/
theorem cover0_5 (p0 : Vec F S8x640 .f32) (y : S8x640.Idx) :
    ∃ pc ∈ ([⟨r0_0, p0⟩] : List (View.Piece (Elt F) S8x640 .f32)), y ∈ pc.1.set :=
  View.cover_of_tiled [⟨r0_0, p0⟩] S8x640.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S8x640 .f32) (harg0 : arg0.IsWhole) (arg1 : Memref sig .tc .vmem S8x640 .f32) (harg1 : arg1.IsWhole) (arg2 : Memref sig .tc .vmem S8x640 .f32) (harg2 : arg2.IsWhole) (arg3 : Memref sig .tc .vmem S8x640 .f32) (harg3 : arg3.IsWhole) (arg4 : Memref sig .tc .vmem S8x640 .f32) (harg4 : arg4.IsWhole) (arg5 : Memref sig .tc .vmem S8x640 .f32) (harg5 : arg5.IsWhole)
    (x0 : Vec F S8x640 .f32) (x1 : Vec F S8x640 .f32) (x2 : Vec F S8x640 .f32) (x3 : Vec F S8x640 .f32) (x4 : Vec F S8x640 .f32) (hH : HaltsAt x0 x1 x2 x3 x4) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.nat c none) E (cc0__soft_nms_body arg0 harg0 arg1 harg1 arg2 harg2 arg3 harg3 arg4 harg4 arg5 harg5) K := by
  simp only [cc0__soft_nms_body_eq_skeleton]; unfold cc0__soft_nms_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  simp only [Prog.lift, Prog.bind_op, Prog.bind_ret]
  iapply (call_le c E (View.ld (arg0.view.read (Elt F) f0) r0_0) (View.ld (arg1.view.read (Elt F) f1) r0_0)
    (View.ld (arg2.view.read (Elt F) f2) r0_0) (View.ld (arg3.view.read (Elt F) f3) r0_0)
    (View.ld (arg4.view.read (Elt F) f4) r0_0) hH)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover0_5 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = out0_5 (iblk m c 0 t) (iblk m c 1 t) (iblk m c 2 t) (iblk m c 3 t) (iblk m c 4 t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the invariant and
    the core's `owes` pass through unread. -/
theorem sound_body (hH : ∀ c t, HaltsAt (iblk m c 0 t) (iblk m c 1 t) (iblk m c 2 t) (iblk m c 3 t) (iblk m c 4 t)) (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) (iblk m c 4 t) (hH c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (hH : ∀ c t, HaltsAt (iblk m c 0 t) (iblk m c 1 t) (iblk m c 2 t) (iblk m c 3 t) (iblk m c 4 t)) (c : Dev nD) : BodyObligation (dats (F := F) m 0 c) (defs₀ (F := F)) Variants.nat () Set.univ := fun t => by
  rw [bigSep_W0, bigSep_W0, defs₀_row]
  exact triple_restated (sound_body m hH c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hH : ∀ c t, HaltsAt (iblk m c 0 t) (iblk m c 1 t) (iblk m c 2 t) (iblk m c 3 t) (iblk m c 4 t)) : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ Variants.nat m ρ main
    (hbody := fun c => (body_obligation m hH c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hH : ∀ c t, HaltsAt (iblk m c 0 t) (iblk m c 1 t) (iblk m c 2 t) (iblk m c 3 t) (iblk m c 4 t)) : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ hH)

/-- `frame` without the counters: the argument arrays end unchanged. -/
theorem unchanged (hH : ∀ c t, HaltsAt (iblk m c 0 t) (iblk m c 1 t) (iblk m c 2 t) (iblk m c 3 t) (iblk m c 4 t)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame (hH : ∀ c t, HaltsAt (iblk m c 0 t) (iblk m c 1 t) (iblk m c 2 t) (iblk m c 3 t) (iblk m c 4 t)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hH) ((θ_run defs _ _).mono (fun _ h => h.2) (run_main_quiescent m ρ hH))

end Cert.Ker

end
-- ==== Proof.Ker.Value.lean ====
/-
  What the kernel's run leaves in its result array, as a term over the arguments: the blocks the region is entered with are
  the padded coordinate columns and the padded scores, the region's output array is the thresholded outputs of the carry
  the loop ends with, and the result is its first 5000 entries.
-/
module

public import proofs.«01_k».proof.Proof.Ker.Run
public import Idealize.ShloMosaic.Lib.StableHlo.Run
public import Idealize.ShloMosaic.Lib.StableHlo.RunRead
public import Idealize.ShloMosaic.Lib.StableHlo.RunHlo
public import Idealize.ShloMosaic.Lib.Pipeline.Value

@[expose] public section

noncomputable section

namespace Cert.Ker

open Cert.KernelIdeal Cert.KernelIdeal.Gen
open Idealize.ShloMosaic Idealize.ShloMosaic.TcCoe Idealize.ShloMosaic.Tactic
open Idealize.SL Idealize.SL.Sem
open Idealize.ShloMosaic.Rounds
open Idealize.ShloMosaic.StableHlo
open Idealize.ShloMosaic.Pipeline (Dat Cfg Window BodyObligation cellOf)

variable {F : FTy → Type} [FloatOps F]
variable (m : (ℓ : Loc nD τ sig) → Buf (Elt F) ℓ) (ρ : Dev nD → PrngReg)

/-- A load of the whole buffer is the buffer. -/
theorem ld_whole (x : Vec F S8x640 .f32) : View.ld x r0_0 = x :=
  View.ld_unit_zero (funext fun a => by fin_cases a <;> rfl) _ _

/-- A store over the whole buffer leaves what it stored. -/
theorem canon_whole (x : Vec F S8x640 .f32) : View.canon [(⟨r0_0, x⟩ : View.Piece (Elt F) S8x640 .f32)] = x :=
  View.canon_cons_unit_zero (funext fun a => by fin_cases a <;> rfl) _ _ _

/-- A vector of 5000 entries padded with `v` and laid out as a tile. -/
def padTile (v : FVec F S_ .f32) (x : FVec F S5000 .f32) : FVec F S8x640 .f32 :=
  shapeCast S8x640 (pad S5120 ![0] ![120] ![0] x v pads_S5000_S5120_01200 h_S_) shapeCasts_S5120_S8x640

/-- The first coordinates of the boxes. -/
def colX1 (b : FVec F S5000x4 .f32) : FVec F S5000 .f32 :=
  shapeCast S5000 (extractStridedSlice S5000x1 ![0, 0] b slices_S5000x4_S5000x1_0_0) shapeCasts_S5000x1_S5000
/-- The second coordinates of the boxes. -/
def colY1 (b : FVec F S5000x4 .f32) : FVec F S5000 .f32 :=
  shapeCast S5000 (extractStridedSlice S5000x1 ![0, 1] b slices_S5000x4_S5000x1_0_1) shapeCasts_S5000x1_S5000
/-- The third coordinates of the boxes. -/
def colX2 (b : FVec F S5000x4 .f32) : FVec F S5000 .f32 :=
  shapeCast S5000 (extractStridedSlice S5000x1 ![0, 2] b slices_S5000x4_S5000x1_0_2) shapeCasts_S5000x1_S5000
/-- The fourth coordinates of the boxes. -/
def colY2 (b : FVec F S5000x4 .f32) : FVec F S5000 .f32 :=
  shapeCast S5000 (extractStridedSlice S5000x1 ![0, 3] b slices_S5000x4_S5000x1_0_3) shapeCasts_S5000x1_S5000

/-- The padding of a coordinate. -/
def zeroPad : FVec F S_ .f32 := id (constant S_ .f32 0x00000000#32)
/-- The padding of the scores. -/
def infPad : FVec F S_ .f32 := id (constant S_ .f32 0xFF800000#32)

/-! The region's five input arrays: the padded columns and the padded scores. -/

theorem pre_main_v3 (X : Valuation τ sig (Elt F)) :
    after (List.flatten [hostOps0, hostOps0_1, hostOps0_2, hostOps0_3, hostOps0_4, hostOps0_5, hostOps0_6, hostOps0_7, hostOps0_8, hostOps0_9, hostOps0_10]) X (Proc.devRef .tc main_v3)
      = (padTile zeroPad (colX1 (X main_arg0)) : S8x640.Idx → F .f32) := by
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem pre_main_v7 (X : Valuation τ sig (Elt F)) :
    after (List.flatten [hostOps0, hostOps0_1, hostOps0_2, hostOps0_3, hostOps0_4, hostOps0_5, hostOps0_6, hostOps0_7, hostOps0_8, hostOps0_9, hostOps0_10]) X (Proc.devRef .tc main_v7)
      = (padTile zeroPad (colY1 (X main_arg0)) : S8x640.Idx → F .f32) := by
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem pre_main_v11 (X : Valuation τ sig (Elt F)) :
    after (List.flatten [hostOps0, hostOps0_1, hostOps0_2, hostOps0_3, hostOps0_4, hostOps0_5, hostOps0_6, hostOps0_7, hostOps0_8, hostOps0_9, hostOps0_10]) X (Proc.devRef .tc main_v11)
      = (padTile zeroPad (colX2 (X main_arg0)) : S8x640.Idx → F .f32) := by
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem pre_main_v15 (X : Valuation τ sig (Elt F)) :
    after (List.flatten [hostOps0, hostOps0_1, hostOps0_2, hostOps0_3, hostOps0_4, hostOps0_5, hostOps0_6, hostOps0_7, hostOps0_8, hostOps0_9, hostOps0_10]) X (Proc.devRef .tc main_v15)
      = (padTile zeroPad (colY2 (X main_arg0)) : S8x640.Idx → F .f32) := by
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem pre_main_v17 (X : Valuation τ sig (Elt F)) :
    after (List.flatten [hostOps0, hostOps0_1, hostOps0_2, hostOps0_3, hostOps0_4, hostOps0_5, hostOps0_6, hostOps0_7, hostOps0_8, hostOps0_9, hostOps0_10]) X (Proc.devRef .tc main_v17)
      = (padTile infPad (X main_arg1) : S8x640.Idx → F .f32) := by
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-! The region has one point, and a window's block there is its whole array. -/

theorem emb_blk_0 (t : Fin (cfg0 (F := F)).N) (x : S8x640.Idx) : (((cfg0 (F := F)).win 0).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_0 (t : Fin (cfg0 (F := F)).N) (A : S8x640.Idx → F .f32) :
    (((cfg0 (F := F)).win 0).blk t).view.read (Elt F) A = A :=
  funext fun x => congrArg A (emb_blk_0 t x)
theorem emb_blk_1 (t : Fin (cfg0 (F := F)).N) (x : S8x640.Idx) : (((cfg0 (F := F)).win 1).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_1 (t : Fin (cfg0 (F := F)).N) (A : S8x640.Idx → F .f32) :
    (((cfg0 (F := F)).win 1).blk t).view.read (Elt F) A = A :=
  funext fun x => congrArg A (emb_blk_1 t x)
theorem emb_blk_2 (t : Fin (cfg0 (F := F)).N) (x : S8x640.Idx) : (((cfg0 (F := F)).win 2).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_2 (t : Fin (cfg0 (F := F)).N) (A : S8x640.Idx → F .f32) :
    (((cfg0 (F := F)).win 2).blk t).view.read (Elt F) A = A :=
  funext fun x => congrArg A (emb_blk_2 t x)
theorem emb_blk_3 (t : Fin (cfg0 (F := F)).N) (x : S8x640.Idx) : (((cfg0 (F := F)).win 3).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_3 (t : Fin (cfg0 (F := F)).N) (A : S8x640.Idx → F .f32) :
    (((cfg0 (F := F)).win 3).blk t).view.read (Elt F) A = A :=
  funext fun x => congrArg A (emb_blk_3 t x)
theorem emb_blk_4 (t : Fin (cfg0 (F := F)).N) (x : S8x640.Idx) : (((cfg0 (F := F)).win 4).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_4 (t : Fin (cfg0 (F := F)).N) (A : S8x640.Idx → F .f32) :
    (((cfg0 (F := F)).win 4).blk t).view.read (Elt F) A = A :=
  funext fun x => congrArg A (emb_blk_4 t x)
theorem emb_blk_5 (t : Fin (cfg0 (F := F)).N) (x : S8x640.Idx) : (((cfg0 (F := F)).win 5).blk t).view.emb x = x := by
  funext a
  apply Fin.ext
  rw [fin_N0 t]
  fin_cases a
  · show (0 * 8 + 1 * (x 0).val = (x 0).val)
    omega
  · show (0 * 640 + 1 * (x 1).val = (x 1).val)
    omega
theorem read_blk_5 (t : Fin (cfg0 (F := F)).N) (A : S8x640.Idx → F .f32) :
    (((cfg0 (F := F)).win 5).blk t).view.read (Elt F) A = A :=
  funext fun x => congrArg A (emb_blk_5 t x)
theorem iblk_0 (c : Dev nD) (t : Fin (cfg0 (F := F)).N) : iblk m c 0 t = V m c main_v3 := read_blk_0 t _
theorem iblk_1 (c : Dev nD) (t : Fin (cfg0 (F := F)).N) : iblk m c 1 t = V m c main_v7 := read_blk_1 t _
theorem iblk_2 (c : Dev nD) (t : Fin (cfg0 (F := F)).N) : iblk m c 2 t = V m c main_v11 := read_blk_2 t _
theorem iblk_3 (c : Dev nD) (t : Fin (cfg0 (F := F)).N) : iblk m c 3 t = V m c main_v15 := read_blk_3 t _
theorem iblk_4 (c : Dev nD) (t : Fin (cfg0 (F := F)).N) : iblk m c 4 t = V m c main_v17 := read_blk_4 t _

/-- The boxes and the scores a core is launched with. -/
abbrev boxes (c : Dev nD) : FVec F S5000x4 .f32 := m ((c.tc : Thread nD τ).loc main_arg0)
abbrev scores (c : Dev nD) : FVec F S5000 .f32 := m ((c.tc : Thread nD τ).loc main_arg1)

/-- The carry the loop ends with, from boxes and scores. -/
def finalOf (b : FVec F S5000x4 .f32) (s : FVec F S5000 .f32) : Carry F :=
  final (padTile zeroPad (colX1 b)) (padTile zeroPad (colY1 b)) (padTile zeroPad (colX2 b)) (padTile zeroPad (colY2 b)) (padTile infPad s)

/-- The loop halts, from boxes and scores. -/
def HaltsOf (b : FVec F S5000x4 .f32) (s : FVec F S5000 .f32) : Prop :=
  Halts (padTile zeroPad (colX1 b)) (padTile zeroPad (colY1 b)) (padTile zeroPad (colX2 b)) (padTile zeroPad (colY2 b)) (padTile infPad s)

/-- The kernel's result, from boxes and scores. -/
def result (b : FVec F S5000x4 .f32) (s : FVec F S5000 .f32) : FVec F S5000 .f32 :=
  extractStridedSlice S5000 ![0] (shapeCast S5120 (k0_pay11 (finalOf b s).2.1) shapeCasts_S8x640_S5120) slices_S5120_S5000_0

theorem haltsAt_of (c : Dev nD) (h : HaltsOf (boxes m c) (scores m c)) (t : Fin (cfg0 (F := F)).N) :
    HaltsAt (iblk m c 0 t) (iblk m c 1 t) (iblk m c 2 t) (iblk m c 3 t) (iblk m c 4 t) := by
  unfold HaltsAt
  rw [iblk_0, iblk_1, iblk_2, iblk_3, iblk_4]
  simp only [ld_whole]
  rw [show V m c main_v3 = _ from pre_main_v3 _, show V m c main_v7 = _ from pre_main_v7 _, show V m c main_v11 = _ from pre_main_v11 _,
    show V m c main_v15 = _ from pre_main_v15 _, show V m c main_v17 = _ from pre_main_v17 _]
  exact h

/-- What the body leaves in the output's buffer. -/
theorem after_out (c : Dev nD) (t : Fin (cfg0 (F := F)).N) :
    (dats m 0 c).after 5 t = k0_pay11 (finalOf (boxes m c) (scores m c)).2.1 := by
  rw [after0_5]
  unfold out0_5
  rw [canon_whole, iblk_0, iblk_1, iblk_2, iblk_3, iblk_4]
  simp only [ld_whole]
  rw [show V m c main_v3 = _ from pre_main_v3 _, show V m c main_v7 = _ from pre_main_v7 _, show V m c main_v11 = _ from pre_main_v11 _,
    show V m c main_v15 = _ from pre_main_v15 _, show V m c main_v17 = _ from pre_main_v17 _]
  rfl

/-- The output's array after the region. -/
theorem arr_out (c : Dev nD) :
    (dats m 0 c).arrAt 5 (cfg0 (F := F)).N = k0_pay11 (finalOf (boxes m c) (scores m c)).2.1 := by
  refine Pipeline.Dat.arrAt_eq_of_cover (dats m 0 c) 5 _ (fun t _ => ?_) (fun i => ⟨t0_0, flush0_5 _, ?_⟩)
  · refine Eq.trans ?_ (read_blk_5 t _).symm
    exact after_out m c t
  · have h := (((cfg0 (F := F)).win 5).blk t0_0).view.emb_mem_set i
    exact (emb_blk_5 (F := F) t0_0 i) ▸ h

/-- The result array after the host lines that follow the region. -/
theorem result_main_v20 (c : Dev nD) :
    Pipeline.afterTail₀ (cfgs (F := F)) (dats m) 0 (V0 m) [hostOps1] c main_v20 = result (boxes m c) (scores m c) := by
  have h : ∀ X : Valuation τ sig (Elt F), after (List.flatten [hostOps1]) X (Proc.devRef .tc main_v20)
      = (extractStridedSlice S5000 ![0] (shapeCast S5120 (X main_v18) shapeCasts_S8x640_S5120) slices_S5120_S5000_0 : S5000.Idx → F .f32) := by
    intro X
    simp only [hostOps1, List.flatten_cons, List.flatten_nil, List.append_nil, List.cons_append, List.nil_append]
    after_results_simp
    rfl
  unfold Pipeline.afterTail₀
  rw [h]
  unfold result
  rw [← arr_out]
  rw [← Pipeline.withArrays_arr _ (launch0 (F := F)).win.arr_inj c (V0 m c) (fun w => (dats m 0 c).arrAt w (cfg0 (F := F)).N) 5]
  rfl

/-- The kernel's run: its result array holds `result` of the boxes and the scores, which end as they began. -/
theorem run (hH : ∀ c, HaltsOf (boxes m c) (scores m c)) :
    θ_run defs (onTc (τ := τ) (main (F := F))) ⟨m, fun _ => 0, ρ⟩ fun r => (∀ c : Dev nD,
      r.2.mem ((c.tc : Thread nD τ).loc main_v20) = result (boxes m c) (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 := by
  refine (θ_run defs _ _).mono (fun r h => ⟨fun c => ⟨?_, ?_, ?_⟩, h.2⟩)
    (run_main_quiescent m ρ fun c t => haltsAt_of m c (hH c) t)
  · exact ((h.1 c).2 main_v20 (Pipeline.mem_restRefs_of main_v20 (by decide) (by exact (by decide : ∀ w, Pipeline.arrRef spec0 w ≠ main_v20)))).trans
      (result_main_v20 m c)
  · exact ((h.1 c).2 main_arg0 (Pipeline.mem_restRefs_of main_arg0 (by decide) (by exact (by decide : ∀ w, Pipeline.arrRef spec0 w ≠ main_arg0)))).trans
      (W_main_arg0 m (dats m) c)
  · exact ((h.1 c).2 main_arg1 (Pipeline.mem_restRefs_of main_arg1 (by decide) (by exact (by decide : ∀ w, Pipeline.arrRef spec0 w ≠ main_arg1)))).trans
      (W_main_arg1 m (dats m) c)

end Cert.Ker

end
-- ==== Proof.Math.Tile.lean ====
/-
  What the kernel's tile reductions are, at the extended reals: the maximum of a tile bounds its entries and is one of
  them, and the first entry equal to the maximum is found by the minimum of the entries' positions.
-/
module

public import proofs.«01_k».proof.Proof.Ker.Loop
public import Idealize.ShloMosaic.Lib.ValueLayout
public import Idealize.ShloMosaic.Lib.IdealHost
public import Idealize.ShloMosaic.Lib.DynamicIndex
public import Idealize.ShloMosaic.PureOps.Reduce
public import Idealize.ShloMosaic.PureOps.Ideal.Laws

@[expose] public section

noncomputable section

namespace Cert.Math

open Cert.KernelIdeal Cert.KernelIdeal.Gen Cert.Ker
open Idealize.ShloMosaic Idealize.ShloMosaic.ValueIdx

/-- An entry's position in the tile, row by row. -/
def flat (j : S8x640.Idx) : ℕ := (j 0).val * 640 + (j 1).val

theorem flat_lt (j : S8x640.Idx) : flat j < 5120 := by
  have h0 := idx2_lt0 j
  have h1 := idx2_lt1 j
  unfold flat; omega

theorem flat_inj {i j : S8x640.Idx} (h : flat i = flat j) : i = j := by
  have h1 := idx2_lt1 i
  have h2 := idx2_lt1 j
  unfold flat at h
  exact Shape.idx_ext₂ (by omega) (by omega)

/-- Minus infinity's word denotes minus infinity. -/
theorem ofBits_negInf : Ideal.ofBits .f32 0xFF800000#32 = ⊥ := by simp [Ideal.ofBits, Ideal.ieee]

/-- The tile's entry under an index with a unit axis in front. -/
def cell (k : S1x8x640.Idx) : S8x640.Idx := ix2 (n0 := 8) (n1 := 640) (k 1) (k 2)

theorem exists_cell (j : S8x640.Idx) : ∃ k, cell k = j :=
  ⟨ix3 (n0 := 1) (n1 := 8) (n2 := 640) 0 (j 0) (j 1), (eq_ix2 j).symm⟩

/-- A tile seen with a unit axis in front, at an index. -/
theorem lead_apply {α : Type} (w : S8x640.Idx → α) (k : S1x8x640.Idx) :
    shapeCast S1x8x640 w shapeCasts_S8x640_S1x8x640 k = w (cell k) := by
  have h : k = ix3 (n0 := 1) (n1 := 8) (n2 := 640) 0 (k 1) (k 2) :=
    (eq_ix3 k).trans (congrArg (fun z => ix3 (n0 := 1) (n1 := 8) (n2 := 640) z (k 1) (k 2)) (Subsingleton.elim (α := Fin 1) _ _))
  exact (congrArg (shapeCast S1x8x640 w shapeCasts_S8x640_S1x8x640) h).trans (shapeCast_ab_1ab_apply (a := 8) (b := 640) w _ _ _ _)

/-- A one-entry vector cast to rank three and read. -/
theorem extract_one {α : Type} (x : S1.Idx → α) :
    extractAt ![0, 0, 0] (shapeCast S1x1x1 x shapeCasts_S1_S1x1x1) inpos_S1x1x1_p0_0_0 = x (ix1 0) :=
  shapeCast_apply x _ _ _ (by rfl)

/-- Every index of the tile reduces to the one entry. -/
theorem drop_all (j : S1.Idx) :
    (Finset.univ.filter fun i => Shape.Reduces.drop reduces_S1x8x640_S1 i = j) = (Finset.univ : Finset S1x8x640.Idx) :=
  Finset.filter_true_of_mem fun i _ => funext fun a => Fin.ext (by
    have h1 := (Shape.Reduces.drop reduces_S1x8x640_S1 i a).isLt
    have h2 := (j a).isLt
    have h3 : S1.size a = 1 := by fin_cases a; rfl
    omega)

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

/-- The maximum of a tile is the fold of `max` over the tile's entries. -/
theorem tileMax_eq (w : FVec Ideal S8x640 .f32) :
    tileMax w = (Finset.univ : Finset S1x8x640.Idx).fold (max : EReal → EReal → EReal) ⊥ fun k => w (cell k) := by
  unfold tileMax
  refine (extract_one _).trans ((multiReduction_maximumf_eq_fold _ _ _ _ _ _).trans ?_)
  rw [drop_all]
  rw [← ofBits_negInf]
  exact Finset.fold_congr fun k _ => lead_apply w k

/-- The maximum of a tile bounds its entries … -/
theorem le_tileMax (w : FVec Ideal S8x640 .f32) (j : S8x640.Idx) : (w j : EReal) ≤ tileMax w := by
  rw [tileMax_eq]
  obtain ⟨k, rfl⟩ := exists_cell j
  exact (Finset.le_fold_max _).mpr (Or.inr ⟨k, Finset.mem_univ _, le_refl _⟩)

/-- … and is one of them. -/
theorem exists_tileMax (w : FVec Ideal S8x640 .f32) : ∃ j, (w j : EReal) = tileMax w := by
  have h := (Finset.le_fold_max (s := (Finset.univ : Finset S1x8x640.Idx)) (b := (⊥ : EReal)) (f := fun k => (w (cell k) : EReal)) (tileMax w)).mp
    (le_of_eq (tileMax_eq w))
  rcases h with h | ⟨k, _, h⟩
  · refine ⟨ix2 (n0 := 8) (n1 := 640) 0 0, le_antisymm (le_tileMax w _) (h.trans bot_le)⟩
  · exact ⟨_, le_antisymm (le_tileMax w _) h⟩

/-- A tile that is `⊥` off one entry has that entry as its maximum. -/
theorem tileMax_single (w : FVec Ideal S8x640 .f32) (J : S8x640.Idx) (h : ∀ j, j ≠ J → (w j : EReal) = ⊥) : tileMax w = w J := by
  obtain ⟨j, hj⟩ := exists_tileMax w
  refine le_antisymm ?_ (le_tileMax w J)
  rw [← hj]
  by_cases e : j = J
  · rw [e]
  · rw [h j e]; exact bot_le

/-- The smallest word of a tile, as the kernel reduces it. -/
def tileMin (v : IVec S8x640 32) : BitVec 32 :=
  extractAt ![0, 0, 0] (shapeCast S1x1x1 (multiReductionI .minsi [1, 2] S1 (shapeCast S1x8x640 v shapeCasts_S8x640_S1x8x640)
    2147483647#32 reduces_S1x8x640_S1 rfl) shapeCasts_S1_S1x1x1) inpos_S1x1x1_p0_0_0

theorem minsi_cases (a b : BitVec 32) : (IKind.minsi.op a b = a ∧ a.toInt ≤ b.toInt) ∨ (IKind.minsi.op a b = b ∧ b.toInt ≤ a.toInt) := by
  show (IntOp.minsi a b = a ∧ _) ∨ (IntOp.minsi a b = b ∧ _)
  unfold IntOp.minsi
  by_cases h : a.slt b
  · left; simp only [h, if_true, true_and]; simp [BitVec.slt] at h; omega
  · right; simp only [h]; simp [BitVec.slt] at h; exact ⟨rfl, h⟩

theorem fold_minsi {ι : Type} [DecidableEq ι] (s : Finset ι) (f : ι → BitVec 32) (b : BitVec 32) :
    ((∀ x ∈ s, (s.fold IKind.minsi.op b f).toInt ≤ (f x).toInt) ∧ (s.fold IKind.minsi.op b f).toInt ≤ b.toInt)
      ∧ (s.fold IKind.minsi.op b f = b ∨ ∃ x ∈ s, s.fold IKind.minsi.op b f = f x) := by
  induction s using Finset.induction_on with
  | empty => simp
  | insert a s ha ih =>
    rw [Finset.fold_insert ha]
    obtain ⟨⟨h1, h2⟩, h3⟩ := ih
    rcases minsi_cases (f a) (s.fold IKind.minsi.op b f) with ⟨e, hle⟩ | ⟨e, hle⟩
    · rw [e]
      refine ⟨⟨fun x hx => ?_, hle.trans h2⟩, Or.inr ⟨a, Finset.mem_insert_self _ _, rfl⟩⟩
      rcases Finset.mem_insert.mp hx with rfl | hx
      · exact le_refl _
      · exact hle.trans (h1 x hx)
    · rw [e]
      refine ⟨⟨fun x hx => ?_, h2⟩, h3.imp id fun ⟨x, hx, he⟩ => ⟨x, Finset.mem_insert_of_mem hx, he⟩⟩
      rcases Finset.mem_insert.mp hx with rfl | hx
      · exact hle
      · exact h1 x hx

theorem tileMin_eq (v : IVec S8x640 32) :
    tileMin v = (Finset.univ : Finset S1x8x640.Idx).fold IKind.minsi.op 2147483647#32 fun k => v (cell k) := by
  unfold tileMin
  refine (extract_one _).trans ((multiReductionI_eq_fold _ _ _ _ _ _).trans ?_)
  rw [drop_all]
  exact Finset.fold_congr fun k _ => lead_apply v k

/-- The kernel's positions: the word of each entry's position. -/
theorem pos_apply (j : S8x640.Idx) : k0_pay6 j = BitVec.ofNat 32 (flat j) := by
  unfold k0_pay6 flat
  show iota .tc S8x640 32 [0] iota_S8x640_d0_w32 j * 640#32 + iota .tc S8x640 32 [1] iota_S8x640_d1_w32 j = _
  rw [iota_single_apply, iota_single_apply, BitVec.ofNat_add, BitVec.ofNat_mul]

/-- At the first entry `J` equal to `x`, the smallest position among the entries equal to `x` is `J`'s. -/
theorem tileMin_first (w : FVec Ideal S8x640 .f32) (x : EReal) (J : S8x640.Idx) (hJ : (w J : EReal) = x)
    (hf : ∀ j, (w j : EReal) = x → flat J ≤ flat j) (v : IVec S8x640 32)
    (hv : ∀ j, v j = if (w j : EReal) = x then BitVec.ofNat 32 (flat j) else 1073741824#32) :
    tileMin v = BitVec.ofNat 32 (flat J) := by
  have hi : ∀ j, (BitVec.ofNat 32 (flat j)).toInt = flat j := fun j => toInt_ofNat_of_lt (by have := flat_lt j; omega)
  obtain ⟨⟨h1, _⟩, h3⟩ := fold_minsi (Finset.univ : Finset S1x8x640.Idx) (fun k => v (cell k)) 2147483647#32
  rw [← tileMin_eq] at h1 h3
  have hle : (tileMin v).toInt ≤ flat J := by
    obtain ⟨k, hk⟩ := exists_cell J
    have h : (tileMin v).toInt ≤ (v (cell k)).toInt := h1 k (Finset.mem_univ _)
    rw [hk, hv, if_pos hJ, hi] at h; exact h
  have hJlt := flat_lt J
  have e1 : (2147483647#32 : BitVec 32).toInt = 2147483647 := by decide
  have e2 : (1073741824#32 : BitVec 32).toInt = 1073741824 := by decide
  rcases h3 with h3 | ⟨k, _, h3⟩
  · rw [h3, e1] at hle
    omega
  · have hk : tileMin v = v (cell k) := h3
    rw [hv] at hk
    split at hk
    · next e =>
      have h2 := hf _ e
      rw [hk, hi] at hle
      have he : flat (cell k) = flat J := by omega
      rw [hk, he]
    · rw [hk, e2] at hle
      omega

end Cert.Math

end
-- ==== Proof.Math.Decay.lean ====
/-
  The arithmetic of one decay over the extended reals: the overlap of two boxes, the factor it decays a score by, and the
  bounds the argument needs of that factor. A factor lies between zero and one, so a score at most zero stays at most zero
  and a score at most the threshold stays at most the threshold.
-/
module

public import Idealize.ShloMosaic.Lib.IdealHost

@[expose] public section

noncomputable section

namespace Cert.Math

open Idealize.ShloMosaic

/-- The score threshold. -/
def thr : EReal := Ideal.ofBits .f32 0x3D4CCCCD#32
/-- The small constant in the overlap's denominator. -/
def eps : EReal := Ideal.ofBits .f32 0x358637BD#32
/-- The width of the decay. -/
def sigma : EReal := Ideal.ofBits .f32 0x3F000000#32

theorem sigma_eq : sigma = (((1 : ℝ) / 2 : ℝ) : EReal) := by
  unfold sigma
  simp [Ideal.ofBits, Ideal.ieee, -EReal.coe_mul]; norm_num

theorem thr_pos : 0 < thr := by
  unfold thr
  have h : Ideal.ofBits .f32 0x3D4CCCCD#32 = (((13421773 : ℝ) * 2 ^ (-28 : ℤ) : ℝ) : EReal) := by
    simp [Ideal.ofBits, Ideal.ieee, -EReal.coe_mul]
  rw [h]
  exact EReal.coe_pos.mpr (by positivity)

/-- The intersection area of two boxes. -/
def inter (a0 a1 a2 a3 b0 b1 b2 b3 : EReal) : EReal :=
  max 0 (min a2 b2 - max a0 b0) * max 0 (min a3 b3 - max a1 b1)

/-- Their overlap: the intersection over the union, the denominator moved off zero. -/
def iou (a0 a1 a2 a3 b0 b1 b2 b3 : EReal) : EReal :=
  Ideal.div (inter a0 a1 a2 a3 b0 b1 b2 b3)
    (((a2 - a0) * (a3 - a1) + (b2 - b0) * (b3 - b1)) - inter a0 a1 a2 a3 b0 b1 b2 b3 + eps)

/-- The factor an overlap decays a score by. -/
def decay (q : EReal) : EReal := Ideal.exp (Ideal.div (-(q * q)) sigma)

theorem sq_nonneg (q : EReal) : 0 ≤ q * q := by
  induction q with
  | bot => simp
  | top => simp
  | coe r => rw [← EReal.coe_mul]; exact EReal.coe_nonneg.mpr (mul_self_nonneg r)

theorem exp_nonneg (x : EReal) : 0 ≤ Ideal.exp x := by
  induction x with
  | bot => exact le_refl _
  | top => exact le_top
  | coe r => exact EReal.coe_nonneg.mpr (Real.exp_nonneg r)

theorem exp_le_one {x : EReal} (h : x ≤ 0) : Ideal.exp x ≤ 1 := by
  induction x with
  | bot => exact zero_le_one
  | top => exact absurd h (by simp)
  | coe r => exact EReal.coe_le_coe_iff.mpr (Real.exp_le_one_iff.mpr (EReal.coe_nonpos.mp h))

theorem decay_nonneg (q : EReal) : 0 ≤ decay q := exp_nonneg _

theorem decay_le_one (q : EReal) : decay q ≤ 1 := by
  refine exp_le_one ?_
  have hs : sigma ≠ 0 := by rw [sigma_eq]; norm_num
  have h0 : -(q * q) ≤ 0 := by simpa using EReal.neg_le_neg_iff.mpr (sq_nonneg q)
  unfold Ideal.div
  rw [if_neg hs, sigma_eq, ← EReal.coe_inv]
  refine mul_nonpos_of_nonpos_of_nonneg h0 (EReal.coe_nonneg.mpr (by norm_num))

/-- A score at most zero stays so under a factor. -/
theorem mul_nonpos_of {x d : EReal} (hx : x ≤ 0) (hd : 0 ≤ d) : x * d ≤ 0 := mul_nonpos_of_nonpos_of_nonneg hx hd

/-- A score at most the threshold stays so under a factor between zero and one. -/
theorem mul_le_thr {x d : EReal} (hx : x ≤ thr) (h0 : 0 ≤ d) (h1 : d ≤ 1) : x * d ≤ thr := by
  by_cases hx0 : 0 ≤ x
  · calc x * d ≤ x * 1 := mul_le_mul_of_nonneg_left h1 hx0
      _ = x := mul_one x
      _ ≤ thr := hx
  · exact (mul_nonpos_of (le_of_lt (not_le.mp hx0)) h0).trans thr_pos.le

end Cert.Math

end
-- ==== Proof.Math.Trip.lean ====
/-
  One trip of the kernel's loop read entry by entry, at the extended reals. Let `J` be the first entry of the working
  scores that equals their maximum. The trip writes the maximum to the outputs at `J`, puts minus infinity there in the
  working scores, and decays every other working score by its box's overlap with the box at `J`.
-/
module

public import proofs.«01_k».proof.Proof.Math.Tile
public import proofs.«01_k».proof.Proof.Math.Decay

@[expose] public section

noncomputable section

namespace Cert.Math

open Cert.KernelIdeal Cert.KernelIdeal.Gen Cert.Ker
open Idealize.ShloMosaic Idealize.ShloMosaic.ValueIdx

/-- `J` is the first entry of the tile `w` equal to `x`. -/
structure First (w : FVec Ideal S8x640 .f32) (x : EReal) (J : S8x640.Idx) : Prop where
  eq : (w J : EReal) = x
  le : ∀ j, (w j : EReal) = x → flat J ≤ flat j

/-- Every tile has a first entry equal to its maximum. -/
theorem exists_first (w : FVec Ideal S8x640 .f32) : ∃ J, First w (tileMax w) J := by
  classical
  have h : ∃ n, ∃ j, flat j = n ∧ (w j : EReal) = tileMax w := (exists_tileMax w).elim fun j hj => ⟨_, j, rfl, hj⟩
  obtain ⟨J, hJ, e⟩ := Nat.find_spec h
  exact ⟨J, e, fun j hj => by rw [hJ]; exact Nat.find_min' h ⟨j, rfl, hj⟩⟩

/-- A one-entry tile broadcast over the whole tile. -/
theorem spread {α : Type} (c : α) (hb : S1x1.Broadcasts S8x640) : broadcastTo S8x640 (broadcast S1x1 c) hb = broadcast S8x640 c :=
  funext fun _ => rfl

/-- A comparison with one word, at an index. -/
theorem eq_spread (a : IVec S8x640 32) (c : BitVec 32) (j : S8x640.Idx) : cmpi .eq a (broadcast S8x640 c) j = IntOp.cmpi .eq (a j) c := rfl

section

variable {w : FVec Ideal S8x640 .f32} {x : EReal} {J : S8x640.Idx} (h : First w x J)

include h in
/-- The mask of the chosen entry. -/
theorem onehot_apply (j : S8x640.Idx) :
    k0_pay15 k0_pay6 w (broadcast S1x1 x : FVec Ideal S1x1 .f32) j = if j = J then 1#1 else 0#1 := by
  have hm := tileMin_first w x J h.eq h.le
    (select (cmpf .oeq w (broadcast S8x640 x : FVec Ideal S8x640 .f32)) k0_pay6 (broadcast S8x640 1073741824#32)) (fun j => by
      show Scalar.select (Ideal.cmp .oeq (w j) x) (k0_pay6 j) 1073741824#32 = _
      rw [pos_apply]
      by_cases e : (w j : EReal) = x
      · rw [if_pos e]; simp [Ideal.cmp, e, Scalar.select]
      · rw [if_neg e]; simp [Ideal.cmp, e, Scalar.select])
  have hp : k0_pay15 k0_pay6 w (broadcast S1x1 x : FVec Ideal S1x1 .f32) j
      = IntOp.cmpi .eq (k0_pay6 j)
          (tileMin (select (cmpf .oeq w (broadcast S8x640 x : FVec Ideal S8x640 .f32)) k0_pay6 (broadcast S8x640 1073741824#32))) := by
    unfold k0_pay15
    dsimp only
    rw [spread, spread]
    unfold tileMin
    exact eq_spread _ _ _
  rw [hp, hm, pos_apply]
  by_cases e : j = J
  · rw [if_pos e, e]; simp [IntOp.cmpi]
  · rw [if_neg e]
    have hne : BitVec.ofNat 32 (flat j) ≠ BitVec.ofNat 32 (flat J) := fun q => e (flat_inj (by
      have q' := congrArg BitVec.toNat q
      have h1 := flat_lt j
      have h2 := flat_lt J
      rw [BitVec.toNat_ofNat, BitVec.toNat_ofNat, Nat.mod_eq_of_lt (by omega), Nat.mod_eq_of_lt (by omega)] at q'
      exact q'))
    show BitVec.ofBool (BitVec.ofNat 32 (flat j) == BitVec.ofNat 32 (flat J)) = 0#1
    rw [beq_false_of_ne hne]; rfl

include h in
theorem select_onehot (a b : FVec Ideal S8x640 .f32) (j : S8x640.Idx) :
    select (k0_pay15 k0_pay6 w (broadcast S1x1 x : FVec Ideal S1x1 .f32)) a b j = if j = J then a j else b j := by
  rw [select_apply, onehot_apply h]
  by_cases e : j = J
  · rw [if_pos e, if_pos e]; rfl
  · rw [if_neg e, if_neg e]; rfl

theorem negInf_eq : (negInf : Ideal .f32) = (⊥ : EReal) := ofBits_negInf

include h in
/-- The maximum over the mask picks the chosen entry. -/
theorem pick (v : FVec Ideal S8x640 .f32) :
    tileMax (select (k0_pay15 k0_pay6 w (broadcast S1x1 x : FVec Ideal S1x1 .f32)) v (broadcast S8x640 (negInf : Ideal .f32))) = v J := by
  rw [tileMax_single _ J fun j e => by rw [select_onehot h, if_neg e]; exact negInf_eq, select_onehot h, if_pos rfl]

include h in
theorem pick17 (v : FVec Ideal S8x640 .f32) :
    k0_pay17 k0_pay6 negInf v w (broadcast S1x1 x : FVec Ideal S1x1 .f32) = (broadcast S1x1 (v J) : FVec Ideal S1x1 .f32) := by
  rw [← pick h v]; unfold k0_pay17 tileMax; rfl
include h in
theorem pick18 (v : FVec Ideal S8x640 .f32) :
    k0_pay18 k0_pay6 negInf v w (broadcast S1x1 x : FVec Ideal S1x1 .f32) = (broadcast S1x1 (v J) : FVec Ideal S1x1 .f32) := by
  rw [← pick h v]; unfold k0_pay18 tileMax; rfl
include h in
theorem pick19 (v : FVec Ideal S8x640 .f32) :
    k0_pay19 k0_pay6 negInf v w (broadcast S1x1 x : FVec Ideal S1x1 .f32) = (broadcast S1x1 (v J) : FVec Ideal S1x1 .f32) := by
  rw [← pick h v]; unfold k0_pay19 tileMax; rfl
include h in
theorem pick20 (v : FVec Ideal S8x640 .f32) :
    k0_pay20 k0_pay6 negInf v w (broadcast S1x1 x : FVec Ideal S1x1 .f32) = (broadcast S1x1 (v J) : FVec Ideal S1x1 .f32) := by
  rw [← pick h v]; unfold k0_pay20 tileMax; rfl

include h in
/-- The outputs after a trip. -/
theorem out_apply (out : FVec Ideal S8x640 .f32) (j : S8x640.Idx) :
    (k0_pay16 k0_pay6 w out (broadcast S1x1 x : FVec Ideal S1x1 .f32) j : EReal) = if j = J then x else out j := by
  have hp : k0_pay16 k0_pay6 w out (broadcast S1x1 x : FVec Ideal S1x1 .f32)
      = select (k0_pay15 k0_pay6 w (broadcast S1x1 x : FVec Ideal S1x1 .f32)) (broadcast S8x640 x : FVec Ideal S8x640 .f32) out := by
    unfold k0_pay16; rfl
  rw [hp, select_onehot h]
  rfl

/-- The overlap of the box at `J` with the box at `j`. -/
def iouAt (x1 y1 x2 y2 : FVec Ideal S8x640 .f32) (J j : S8x640.Idx) : EReal :=
  iou (x1 J) (y1 J) (x2 J) (y2 J) (x1 j) (y1 j) (x2 j) (y2 j)

end

/-- The working scores after a trip. -/
theorem tripW_apply (x1 y1 x2 y2 area : FVec Ideal S8x640 .f32) (harea : ∀ j, (area j : EReal) = (x2 j - x1 j) * (y2 j - y1 j))
    (w out : FVec Ideal S8x640 .f32) {J : S8x640.Idx} (h : First w (tileMax w) J) (j : S8x640.Idx) :
    (tripW x1 y1 x2 y2 area (mkCarry w out) j : EReal) = if j = J then ⊥ else w j * decay (iouAt x1 y1 x2 y2 J j) := by
  unfold tripW mkCarry
  dsimp only
  unfold k0_pay21 k0_pay22 k0_pay23
  rw [pick17 h, pick18 h, pick19 h, pick20 h]
  unfold k0_pay12
  dsimp only
  rw [select_onehot h]
  by_cases e : j = J
  · rw [if_pos e, if_pos e]; exact negInf_eq
  · rw [if_neg e, if_neg e]
    show (w j : EReal) * Ideal.exp (Ideal.div (Ideal.ofBits .f32 0x00000000#32 - _ * _) sigma) = _
    rw [Ideal.ofBits_zero_f32, zero_sub]
    unfold decay iouAt iou inter eps
    rw [← harea j]
    have hz : (FloatOps.ofBits .f32 0#32 : Ideal .f32) = (0 : EReal) := Ideal.ofBits_zero_f32
    have hb : broadcastTo S8x640 (mulf (subf (broadcast S1x1 (x2 J)) (broadcast S1x1 (x1 J))) (subf (broadcast S1x1 (y2 J)) (broadcast S1x1 (y1 J))) : FVec Ideal S1x1 .f32)
        broadcasts_S1x1_S8x640 j = ((x2 J : EReal) - x1 J) * (y2 J - y1 J) := rfl
    simp only [spread, divf_apply, mulf_apply, maximumf_apply, addf_apply, subf_apply, minimumf_apply, broadcast_apply, hz, hb]
    rfl

end Cert.Math

end
-- ==== Proof.Ref.Fold.lean ====
/-
  The reference program's run as a fold over its host operations. @main is one stretch of host operations, one counted host
  loop of 5000 trips and two stretches after it; every weakly fair execution terminates with every unscoped buffer at
  the fold of those operations (`run_fold`). The set-up follows the shape the generator gives to a program of one
  counted loop; the arg-max call's two operations of four operands (an index-carrying reduction) are written in here.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1044

noncomputable section

namespace Cert.RefRun

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 7 host operations of @main, in order. -/
abbrev hostOps0 : List (HloOp τ sig (Elt F)) :=
  [ StableHlo.nullary main_c (constantI S_ 1 0#1),
    StableHlo.unary main_c main_v0 (broadcastInDim S5000 ![] bcast_S_S5000 : (⟨S_, .i1⟩ : BufTy).Contents (Elt F) → (⟨S5000, .i1⟩ : BufTy).Contents (Elt F)),
    StableHlo.nullary main_c_0 (constantI S_ 32 0#32),
    StableHlo.unary main_arg0 main_v1_0 id,
    StableHlo.unary main_c_0 main_v1_1 id,
    StableHlo.unary main_arg1 main_v1_2 id,
    StableHlo.unary main_v0 main_v1_3 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 4 host operations of @main, in order. -/
abbrev hostOps0_1 : List (HloOp τ sig (Elt F)) :=
  [ StableHlo.nullary main_cst (constant S_ .f32 0x3D4CCCCD#32),
    StableHlo.unary main_cst main_v2 (broadcastInDim S5000 ![] bcast_S_S5000 : (⟨S_, .f32⟩ : BufTy).Contents (Elt F) → (⟨S5000, .f32⟩ : BufTy).Contents (Elt F)),
    StableHlo.binary main_v1_2 main_v2 main_v3 (cmpf .ogt : (⟨S5000, .f32⟩ : BufTy).Contents (Elt F) → (⟨S5000, .f32⟩ : BufTy).Contents (Elt F) → (⟨S5000, .i1⟩ : BufTy).Contents (Elt F)),
    StableHlo.nullary main_cst_1 (constant S_ .f32 0x00000000#32) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 3 host operations of @_where_1 (main_call5), in order. -/
abbrev hostOps0_2 : List (HloOp τ sig (Elt F)) :=
  [ StableHlo.TRef.unary (.of main_cst_1 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S5000, .f32⟩) (broadcastInDim S5000 ![] bcast_S_S5000),
    StableHlo.TRef.ternary (.of main_v3 : StableHlo.TRef sig ⟨S5000, .i1⟩) (.of main_v1_2 : StableHlo.TRef sig ⟨S5000, .f32⟩) (.of main_call5_v1 : StableHlo.TRef sig ⟨S5000, .f32⟩) (.of main_v4 : StableHlo.TRef sig ⟨S5000, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.ternary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

-- no `main_segs` (the loop-free kit's `Seg.run` equation) for this @main: it has a host loop; a certificate takes `main_chain` (Lib/Pipeline/RegionsLoop.lean)

/-- 1 host operation of host loop 0's body region, in order. -/
abbrev while0Ops0 : List (HloOp τ sig (Elt F)) :=
  [ StableHlo.nullary main_while0b_cst_5 (constant S_ .f32 0xFF800000#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.nullary_bufs_sub ..
/-- 3 host operations of @_where (main_while0b_call0), in order. -/
abbrev while0Ops0_1 : List (HloOp τ sig (Elt F)) :=
  [ StableHlo.TRef.unary (.of main_while0b_cst_5 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S5000, .f32⟩) (broadcastInDim S5000 ![] bcast_S_S5000),
    StableHlo.TRef.ternary (.of main_v1_3 : StableHlo.TRef sig ⟨S5000, .i1⟩) (.of main_while0b_call0_v1 : StableHlo.TRef sig ⟨S5000, .f32⟩) (.of main_v1_2 : StableHlo.TRef sig ⟨S5000, .f32⟩) (.of main_while0b_v5 : StableHlo.TRef sig ⟨S5000, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of @argmax (main_while0b_call1), in order. -/
abbrev while0Ops0_2 : List (HloOp τ sig (Elt F)) :=
  [ StableHlo.TRef.nullary (.of main_while0b_call1_v0 : StableHlo.TRef sig ⟨S5000, .i32⟩) (iotaInDim S5000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v5 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S5000_S_d0 h_S_ j).1),
    StableHlo.TRef.quaternary (.of main_while0b_v5 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_v6 : StableHlo.TRef sig ⟨S_, .i32⟩) (fun x y u v j => (Host.argReduce reducer_argmax_f32_i32 x y u v reducesTo_S5000_S_d0 h_S_ j).2) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 41 host operations of host loop 0's body region, in order. -/
abbrev while0Ops0_3 : List (HloOp τ sig (Elt F)) :=
  ( StableHlo.nullary main_while0b_c_6 (constantI S_ 32 0#32)
  :: StableHlo.binary main_while0b_v6 main_while0b_c_6 main_while0b_v7 (cmpi .slt : (⟨S_, .i32⟩ : BufTy).Contents (Elt F) → (⟨S_, .i32⟩ : BufTy).Contents (Elt F) → (⟨S_, .i1⟩ : BufTy).Contents (Elt F))
  :: StableHlo.nullary main_while0b_c_7 (constantI S_ 32 5000#32)
  :: StableHlo.binary main_while0b_v6 main_while0b_c_7 main_while0b_v8 (addi : (⟨S_, .i32⟩ : BufTy).Contents (Elt F) → (⟨S_, .i32⟩ : BufTy).Contents (Elt F) → (⟨S_, .i32⟩ : BufTy).Contents (Elt F))
  :: StableHlo.ternary main_while0b_v7 main_while0b_v8 main_while0b_v6 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_8 (constantI S_ 32 0#32)
  :: StableHlo.nullary main_while0b_c_9 (constantI S_ 32 0#32)
  :: StableHlo.binary main_while0b_c_8 main_while0b_c_9 main_while0b_v10 (cmpi .slt : (⟨S_, .i32⟩ : BufTy).Contents (Elt F) → (⟨S_, .i32⟩ : BufTy).Contents (Elt F) → (⟨S_, .i1⟩ : BufTy).Contents (Elt F))
  :: StableHlo.nullary main_while0b_c_10 (constantI S_ 32 0#32)
  :: StableHlo.nullary main_while0b_c_11 (constantI S_ 32 4#32)
  :: StableHlo.binary main_while0b_c_10 main_while0b_c_11 main_while0b_v11 (addi : (⟨S_, .i32⟩ : BufTy).Contents (Elt F) → (⟨S_, .i32⟩ : BufTy).Contents (Elt F) → (⟨S_, .i32⟩ : BufTy).Contents (Elt F))
  :: StableHlo.nullary main_while0b_c_12 (constantI S_ 32 0#32)
  :: StableHlo.ternary main_while0b_v10 main_while0b_v11 main_while0b_c_12 main_while0b_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v1_0 ![main_while0b_v9, main_while0b_v12] ⟨S_, .i32⟩ main_while0b_v13 ((fun x i => Host.dynamicSlice S1x4 x (fun k => (i k (Shape.Idx.first h_S_)).toInt) sliceFits_S5000x4_S1x4) : (⟨S5000x4, .f32⟩ : BufTy).Contents (Elt F) → (Fin 2 → (⟨S_, .i32⟩ : BufTy).Contents (Elt F)) → (⟨S1x4, .f32⟩ : BufTy).Contents (Elt F))
  :: StableHlo.reshape main_while0b_v13 main_while0b_v14 (rfl : (.f32 : EltTy) = .f32) shapeCasts_S1x4_S4
  :: StableHlo.unary main_while0b_v14 main_while0b_v15 ((extractStridedSlice S1 ![0] · slices_S4_S1_0) : (⟨S4, .f32⟩ : BufTy).Contents (Elt F) → (⟨S1, .f32⟩ : BufTy).Contents (Elt F))
  :: StableHlo.reshape main_while0b_v15 main_while0b_v16 (rfl : (.f32 : EltTy) = .f32) shapeCasts_S1_S_
  :: StableHlo.unary main_v1_0 main_while0b_v17 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_while0b_v17 main_while0b_v18 (rfl : (.f32 : EltTy) = .f32) shapeCasts_S5000x1_S5000
  :: StableHlo.unary main_while0b_v16 main_while0b_v19 (broadcastInDim S5000 ![] bcast_S_S5000 : (⟨S_, .f32⟩ : BufTy).Contents (Elt F) → (⟨S5000, .f32⟩ : BufTy).Contents (Elt F))
  :: StableHlo.binary main_while0b_v19 main_while0b_v18 main_while0b_v20 (maximumf : (⟨S5000, .f32⟩ : BufTy).Contents (Elt F) → (⟨S5000, .f32⟩ : BufTy).Contents (Elt F) → (⟨S5000, .f32⟩ : BufTy).Contents (Elt F))
  :: StableHlo.unary main_while0b_v14 main_while0b_v21 ((extractStridedSlice S1 ![1] · slices_S4_S1_1) : (⟨S4, .f32⟩ : BufTy).Contents (Elt F) → (⟨S1, .f32⟩ : BufTy).Contents (Elt F))
  :: StableHlo.reshape main_while0b_v21 main_while0b_v22 (rfl : (.f32 : EltTy) = .f32) shapeCasts_S1_S_
  :: StableHlo.unary main_v1_0 main_while0b_v23 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_while0b_v23 main_while0b_v24 (rfl : (.f32 : EltTy) = .f32) shapeCasts_S5000x1_S5000
  :: StableHlo.unary main_while0b_v22 main_while0b_v25 (broadcastInDim S5000 ![] bcast_S_S5000 : (⟨S_, .f32⟩ : BufTy).Contents (Elt F) → (⟨S5000, .f32⟩ : BufTy).Contents (Elt F))
  :: StableHlo.binary main_while0b_v25 main_while0b_v24 main_while0b_v26 (maximumf : (⟨S5000, .f32⟩ : BufTy).Contents (Elt F) → (⟨S5000, .f32⟩ : BufTy).Contents (Elt F) → (⟨S5000, .f32⟩ : BufTy).Contents (Elt F))
  :: StableHlo.unary main_while0b_v14 main_while0b_v27 ((extractStridedSlice S1 ![2] · slices_S4_S1_2) : (⟨S4, .f32⟩ : BufTy).Contents (Elt F) → (⟨S1, .f32⟩ : BufTy).Contents (Elt F))
  :: StableHlo.reshape main_while0b_v27 main_while0b_v28 (rfl : (.f32 : EltTy) = .f32) shapeCasts_S1_S_
  :: StableHlo.unary main_v1_0 main_while0b_v29 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_while0b_v29 main_while0b_v30 (rfl : (.f32 : EltTy) = .f32) shapeCasts_S5000x1_S5000
  :: StableHlo.unary main_while0b_v28 main_while0b_v31 (broadcastInDim S5000 ![] bcast_S_S5000 : (⟨S_, .f32⟩ : BufTy).Contents (Elt F) → (⟨S5000, .f32⟩ : BufTy).Contents (Elt F))
  :: StableHlo.binary main_while0b_v31 main_while0b_v30 main_while0b_v32 (minimumf : (⟨S5000, .f32⟩ : BufTy).Contents (Elt F) → (⟨S5000, .f32⟩ : BufTy).Contents (Elt F) → (⟨S5000, .f32⟩ : BufTy).Contents (Elt F))
  :: StableHlo.unary main_while0b_v14 main_while0b_v33 ((extractStridedSlice S1 ![3] · slices_S4_S1_3) : (⟨S4, .f32⟩ : BufTy).Contents (Elt F) → (⟨S1, .f32⟩ : BufTy).Contents (Elt F))
  :: StableHlo.reshape main_while0b_v33 main_while0b_v34 (rfl : (.f32 : EltTy) = .f32) shapeCasts_S1_S_
  :: StableHlo.unary main_v1_0 main_while0b_v35 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_while0b_v35 main_while0b_v36 (rfl : (.f32 : EltTy) = .f32) shapeCasts_S5000x1_S5000
  :: StableHlo.unary main_while0b_v34 main_while0b_v37 (broadcastInDim S5000 ![] bcast_S_S5000 : (⟨S_, .f32⟩ : BufTy).Contents (Elt F) → (⟨S5000, .f32⟩ : BufTy).Contents (Elt F))
  :: StableHlo.binary main_while0b_v37 main_while0b_v36 main_while0b_v38 (minimumf : (⟨S5000, .f32⟩ : BufTy).Contents (Elt F) → (⟨S5000, .f32⟩ : BufTy).Contents (Elt F) → (⟨S5000, .f32⟩ : BufTy).Contents (Elt F))
  :: StableHlo.binary main_while0b_v32 main_while0b_v20 main_while0b_v39 (subf : (⟨S5000, .f32⟩ : BufTy).Contents (Elt F) → (⟨S5000, .f32⟩ : BufTy).Contents (Elt F) → (⟨S5000, .f32⟩ : BufTy).Contents (Elt F))
  :: StableHlo.nullary main_while0b_cst_13 (constant S_ .f32 0x00000000#32)
  :: [] )
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub ..⟩
/-- 3 host operations of @clip (main_while0b_call2), in order. -/
abbrev while0Ops0_4 : List (HloOp τ sig (Elt F)) :=
  [ StableHlo.TRef.unary (.of main_while0b_cst_13 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S5000, .f32⟩) (broadcastInDim S5000 ![] bcast_S_S5000),
    StableHlo.TRef.binary (.of main_while0b_call2_v1 : StableHlo.TRef sig ⟨S5000, .f32⟩) (.of main_while0b_v39 : StableHlo.TRef sig ⟨S5000, .f32⟩) (.of main_while0b_v40 : StableHlo.TRef sig ⟨S5000, .f32⟩) maximumf ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.binary_bufs_sub ..⟩
/-- 2 host operations of host loop 0's body region, in order. -/
abbrev while0Ops0_5 : List (HloOp τ sig (Elt F)) :=
  [ StableHlo.binary main_while0b_v38 main_while0b_v26 main_while0b_v41 (subf : (⟨S5000, .f32⟩ : BufTy).Contents (Elt F) → (⟨S5000, .f32⟩ : BufTy).Contents (Elt F) → (⟨S5000, .f32⟩ : BufTy).Contents (Elt F)),
    StableHlo.nullary main_while0b_cst_14 (constant S_ .f32 0x00000000#32) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.binary_bufs_sub .., StableHlo.nullary_bufs_sub ..⟩
/-- 3 host operations of @clip (main_while0b_call3), in order. -/
abbrev while0Ops0_6 : List (HloOp τ sig (Elt F)) :=
  [ StableHlo.TRef.unary (.of main_while0b_cst_14 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S5000, .f32⟩) (broadcastInDim S5000 ![] bcast_S_S5000),
    StableHlo.TRef.binary (.of main_while0b_call3_v1 : StableHlo.TRef sig ⟨S5000, .f32⟩) (.of main_while0b_v41 : StableHlo.TRef sig ⟨S5000, .f32⟩) (.of main_while0b_v42 : StableHlo.TRef sig ⟨S5000, .f32⟩) maximumf ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.binary_bufs_sub ..⟩
/-- 37 host operations of host loop 0's body region, in order. -/
abbrev while0Ops0_7 : List (HloOp τ sig (Elt F)) :=
  ( StableHlo.binary main_while0b_v40 main_while0b_v42 main_while0b_v43 (mulf : (⟨S5000, .f32⟩ : BufTy).Contents (Elt F) → (⟨S5000, .f32⟩ : BufTy).Contents (Elt F) → (⟨S5000, .f32⟩ : BufTy).Contents (Elt F))
  :: StableHlo.unary main_while0b_v14 main_while0b_v44 ((extractStridedSlice S1 ![2] · slices_S4_S1_2) : (⟨S4, .f32⟩ : BufTy).Contents (Elt F) → (⟨S1, .f32⟩ : BufTy).Contents (Elt F))
  :: StableHlo.reshape main_while0b_v44 main_while0b_v45 (rfl : (.f32 : EltTy) = .f32) shapeCasts_S1_S_
  :: StableHlo.unary main_while0b_v14 main_while0b_v46 ((extractStridedSlice S1 ![0] · slices_S4_S1_0) : (⟨S4, .f32⟩ : BufTy).Contents (Elt F) → (⟨S1, .f32⟩ : BufTy).Contents (Elt F))
  :: StableHlo.reshape main_while0b_v46 main_while0b_v47 (rfl : (.f32 : EltTy) = .f32) shapeCasts_S1_S_
  :: StableHlo.binary main_while0b_v45 main_while0b_v47 main_while0b_v48 (subf : (⟨S_, .f32⟩ : BufTy).Contents (Elt F) → (⟨S_, .f32⟩ : BufTy).Contents (Elt F) → (⟨S_, .f32⟩ : BufTy).Contents (Elt F))
  :: StableHlo.unary main_while0b_v14 main_while0b_v49 ((extractStridedSlice S1 ![3] · slices_S4_S1_3) : (⟨S4, .f32⟩ : BufTy).Contents (Elt F) → (⟨S1, .f32⟩ : BufTy).Contents (Elt F))
  :: StableHlo.reshape main_while0b_v49 main_while0b_v50 (rfl : (.f32 : EltTy) = .f32) shapeCasts_S1_S_
  :: StableHlo.unary main_while0b_v14 main_while0b_v51 ((extractStridedSlice S1 ![1] · slices_S4_S1_1) : (⟨S4, .f32⟩ : BufTy).Contents (Elt F) → (⟨S1, .f32⟩ : BufTy).Contents (Elt F))
  :: StableHlo.reshape main_while0b_v51 main_while0b_v52 (rfl : (.f32 : EltTy) = .f32) shapeCasts_S1_S_
  :: StableHlo.binary main_while0b_v50 main_while0b_v52 main_while0b_v53 (subf : (⟨S_, .f32⟩ : BufTy).Contents (Elt F) → (⟨S_, .f32⟩ : BufTy).Contents (Elt F) → (⟨S_, .f32⟩ : BufTy).Contents (Elt F))
  :: StableHlo.binary main_while0b_v48 main_while0b_v53 main_while0b_v54 (mulf : (⟨S_, .f32⟩ : BufTy).Contents (Elt F) → (⟨S_, .f32⟩ : BufTy).Contents (Elt F) → (⟨S_, .f32⟩ : BufTy).Contents (Elt F))
  :: StableHlo.unary main_v1_0 main_while0b_v55 ((extractStridedSlice S5000x1 ![0, 2] · slices_S5000x4_S5000x1_0_2) : (⟨S5000x4, .f32⟩ : BufTy).Contents (Elt F) → (⟨S5000x1, .f32⟩ : BufTy).Contents (Elt F))
  :: StableHlo.reshape main_while0b_v55 main_while0b_v56 (rfl : (.f32 : EltTy) = .f32) shapeCasts_S5000x1_S5000
  :: StableHlo.unary main_v1_0 main_while0b_v57 ((extractStridedSlice S5000x1 ![0, 0] · slices_S5000x4_S5000x1_0_0) : (⟨S5000x4, .f32⟩ : BufTy).Contents (Elt F) → (⟨S5000x1, .f32⟩ : BufTy).Contents (Elt F))
  :: StableHlo.reshape main_while0b_v57 main_while0b_v58 (rfl : (.f32 : EltTy) = .f32) shapeCasts_S5000x1_S5000
  :: StableHlo.binary main_while0b_v56 main_while0b_v58 main_while0b_v59 (subf : (⟨S5000, .f32⟩ : BufTy).Contents (Elt F) → (⟨S5000, .f32⟩ : BufTy).Contents (Elt F) → (⟨S5000, .f32⟩ : BufTy).Contents (Elt F))
  :: StableHlo.unary main_v1_0 main_while0b_v60 ((extractStridedSlice S5000x1 ![0, 3] · slices_S5000x4_S5000x1_0_3) : (⟨S5000x4, .f32⟩ : BufTy).Contents (Elt F) → (⟨S5000x1, .f32⟩ : BufTy).Contents (Elt F))
  :: StableHlo.reshape main_while0b_v60 main_while0b_v61 (rfl : (.f32 : EltTy) = .f32) shapeCasts_S5000x1_S5000
  :: StableHlo.unary main_v1_0 main_while0b_v62 ((extractStridedSlice S5000x1 ![0, 1] · slices_S5000x4_S5000x1_0_1) : (⟨S5000x4, .f32⟩ : BufTy).Contents (Elt F) → (⟨S5000x1, .f32⟩ : BufTy).Contents (Elt F))
  :: StableHlo.reshape main_while0b_v62 main_while0b_v63 (rfl : (.f32 : EltTy) = .f32) shapeCasts_S5000x1_S5000
  :: StableHlo.binary main_while0b_v61 main_while0b_v63 main_while0b_v64 (subf : (⟨S5000, .f32⟩ : BufTy).Contents (Elt F) → (⟨S5000, .f32⟩ : BufTy).Contents (Elt F) → (⟨S5000, .f32⟩ : BufTy).Contents (Elt F))
  :: StableHlo.binary main_while0b_v59 main_while0b_v64 main_while0b_v65 (mulf : (⟨S5000, .f32⟩ : BufTy).Contents (Elt F) → (⟨S5000, .f32⟩ : BufTy).Contents (Elt F) → (⟨S5000, .f32⟩ : BufTy).Contents (Elt F))
  :: StableHlo.unary main_while0b_v54 main_while0b_v66 (broadcastInDim S5000 ![] bcast_S_S5000 : (⟨S_, .f32⟩ : BufTy).Contents (Elt F) → (⟨S5000, .f32⟩ : BufTy).Contents (Elt F))
  :: StableHlo.binary main_while0b_v66 main_while0b_v65 main_while0b_v67 (addf : (⟨S5000, .f32⟩ : BufTy).Contents (Elt F) → (⟨S5000, .f32⟩ : BufTy).Contents (Elt F) → (⟨S5000, .f32⟩ : BufTy).Contents (Elt F))
  :: StableHlo.binary main_while0b_v67 main_while0b_v43 main_while0b_v68 (subf : (⟨S5000, .f32⟩ : BufTy).Contents (Elt F) → (⟨S5000, .f32⟩ : BufTy).Contents (Elt F) → (⟨S5000, .f32⟩ : BufTy).Contents (Elt F))
  :: StableHlo.nullary main_while0b_cst_15 (constant S_ .f32 0x358637BD#32)
  :: StableHlo.unary main_while0b_cst_15 main_while0b_v69 (broadcastInDim S5000 ![] bcast_S_S5000 : (⟨S_, .f32⟩ : BufTy).Contents (Elt F) → (⟨S5000, .f32⟩ : BufTy).Contents (Elt F))
  :: StableHlo.binary main_while0b_v68 main_while0b_v69 main_while0b_v70 (addf : (⟨S5000, .f32⟩ : BufTy).Contents (Elt F) → (⟨S5000, .f32⟩ : BufTy).Contents (Elt F) → (⟨S5000, .f32⟩ : BufTy).Contents (Elt F))
  :: StableHlo.binary main_while0b_v43 main_while0b_v70 main_while0b_v71 (Host.divf : (⟨S5000, .f32⟩ : BufTy).Contents (Elt F) → (⟨S5000, .f32⟩ : BufTy).Contents (Elt F) → (⟨S5000, .f32⟩ : BufTy).Contents (Elt F))
  :: StableHlo.binary main_while0b_v71 main_while0b_v71 main_while0b_v72 (mulf : (⟨S5000, .f32⟩ : BufTy).Contents (Elt F) → (⟨S5000, .f32⟩ : BufTy).Contents (Elt F) → (⟨S5000, .f32⟩ : BufTy).Contents (Elt F))
  :: StableHlo.unary main_while0b_v72 main_while0b_v73 (Host.negf : (⟨S5000, .f32⟩ : BufTy).Contents (Elt F) → (⟨S5000, .f32⟩ : BufTy).Contents (Elt F))
  :: StableHlo.nullary main_while0b_cst_16 (constant S_ .f32 0x3F000000#32)
  :: StableHlo.unary main_while0b_cst_16 main_while0b_v74 (broadcastInDim S5000 ![] bcast_S_S5000 : (⟨S_, .f32⟩ : BufTy).Contents (Elt F) → (⟨S5000, .f32⟩ : BufTy).Contents (Elt F))
  :: StableHlo.binary main_while0b_v73 main_while0b_v74 main_while0b_v75 (Host.divf : (⟨S5000, .f32⟩ : BufTy).Contents (Elt F) → (⟨S5000, .f32⟩ : BufTy).Contents (Elt F) → (⟨S5000, .f32⟩ : BufTy).Contents (Elt F))
  :: StableHlo.unary main_while0b_v75 main_while0b_v76 (Host.exp : (⟨S5000, .f32⟩ : BufTy).Contents (Elt F) → (⟨S5000, .f32⟩ : BufTy).Contents (Elt F))
  :: StableHlo.nullary main_while0b_cst_17 (constant S_ .f32 0x3F800000#32)
  :: [] )
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub ..⟩
/-- 3 host operations of @_where_0 (main_while0b_call4), in order. -/
abbrev while0Ops0_8 : List (HloOp τ sig (Elt F)) :=
  [ StableHlo.TRef.unary (.of main_while0b_cst_17 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S5000, .f32⟩) (broadcastInDim S5000 ![] bcast_S_S5000),
    StableHlo.TRef.ternary (.of main_v1_3 : StableHlo.TRef sig ⟨S5000, .i1⟩) (.of main_while0b_call4_v1 : StableHlo.TRef sig ⟨S5000, .f32⟩) (.of main_while0b_v76 : StableHlo.TRef sig ⟨S5000, .f32⟩) (.of main_while0b_v77 : StableHlo.TRef sig ⟨S5000, .f32⟩) select ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.unary_bufs_sub .., StableHlo.ternary_bufs_sub ..⟩
/-- 22 host operations of host loop 0's body region, in order. -/
abbrev while0Ops0_9 : List (HloOp τ sig (Elt F)) :=
  [ StableHlo.nullary main_while0b_c_18 (constantI S_ 32 0#32),
    StableHlo.binary main_while0b_v6 main_while0b_c_18 main_while0b_v78 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 5000#32),
    StableHlo.binary main_while0b_v6 main_while0b_c_19 main_while0b_v79 (addi : (⟨S_, .i32⟩ : BufTy).Contents (Elt F) → (⟨S_, .i32⟩ : BufTy).Contents (Elt F) → (⟨S_, .i32⟩ : BufTy).Contents (Elt F)),
    StableHlo.ternary main_while0b_v78 main_while0b_v79 main_while0b_v6 main_while0b_v80 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v80 main_while0b_v81 (broadcastInDim S1 ![] bcast_S_S1 : (⟨S_, .i32⟩ : BufTy).Contents (Elt F) → (⟨S1, .i32⟩ : BufTy).Contents (Elt F)),
    StableHlo.nullary main_while0b_cst_20 (constant S_ .f32 0x3F800000#32),
    StableHlo.ternary main_while0b_v77 main_while0b_v81 main_while0b_cst_20 main_while0b_v82 ((fun x i u => Host.scatter scatter_S5000_S1_S__n_0_0_0 (fun _ b => b) x i u) : (⟨S5000, .f32⟩ : BufTy).Contents (Elt F) → (⟨S1, .i32⟩ : BufTy).Contents (Elt F) → (⟨S_, .f32⟩ : BufTy).Contents (Elt F) → (⟨S5000, .f32⟩ : BufTy).Contents (Elt F)),
    StableHlo.binary main_v1_2 main_while0b_v82 main_while0b_v83 (mulf : (⟨S5000, .f32⟩ : BufTy).Contents (Elt F) → (⟨S5000, .f32⟩ : BufTy).Contents (Elt F) → (⟨S5000, .f32⟩ : BufTy).Contents (Elt F)),
    StableHlo.nullary main_while0b_c_21 (constantI S_ 32 0#32),
    StableHlo.binary main_while0b_v6 main_while0b_c_21 main_while0b_v84 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 5000#32),
    StableHlo.binary main_while0b_v6 main_while0b_c_22 main_while0b_v85 (addi : (⟨S_, .i32⟩ : BufTy).Contents (Elt F) → (⟨S_, .i32⟩ : BufTy).Contents (Elt F) → (⟨S_, .i32⟩ : BufTy).Contents (Elt F)),
    StableHlo.ternary main_while0b_v84 main_while0b_v85 main_while0b_v6 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v86 main_while0b_v87 (broadcastInDim S1 ![] bcast_S_S1 : (⟨S_, .i32⟩ : BufTy).Contents (Elt F) → (⟨S1, .i32⟩ : BufTy).Contents (Elt F)),
    StableHlo.nullary main_while0b_c_23 (constantI S_ 1 1#1),
    StableHlo.ternary main_v1_3 main_while0b_v87 main_while0b_c_23 main_while0b_v88 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F)),
    StableHlo.nullary main_while0b_c_24 (constantI S_ 32 1#32),
    StableHlo.binary main_v1_1 main_while0b_c_24 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v1_1 id,
    StableHlo.unary main_while0b_v83 main_v1_2 id,
    StableHlo.unary main_while0b_v88 main_v1_3 id ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.RefRun

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_c_0, main_v1_0, main_v1_1, main_v1_2, main_v1_3]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_cst_5]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_v1, main_while0b_v5]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_cst, main_while0b_call1_c, main_while0b_call1_v1_0, main_while0b_v6]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_6, main_while0b_v7, main_while0b_c_7, main_while0b_v8, main_while0b_v9, main_while0b_c_8, main_while0b_c_9, main_while0b_v10, main_while0b_c_10, main_while0b_c_11, main_while0b_v11, main_while0b_c_12, main_while0b_v12, main_while0b_v13, main_while0b_v14, main_while0b_v15, main_while0b_v16, main_while0b_v17, main_while0b_v18, main_while0b_v19, main_while0b_v20, main_while0b_v21, main_while0b_v22, main_while0b_v23, main_while0b_v24, main_while0b_v25, main_while0b_v26, main_while0b_v27, main_while0b_v28, main_while0b_v29, main_while0b_v30, main_while0b_v31, main_while0b_v32, main_while0b_v33, main_while0b_v34, main_while0b_v35, main_while0b_v36, main_while0b_v37, main_while0b_v38, main_while0b_v39, main_while0b_cst_13]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_v1, main_while0b_v40]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v41, main_while0b_cst_14]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call3_v0, main_while0b_call3_v1, main_while0b_v42]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66, main_while0b_v67, main_while0b_v68, main_while0b_cst_15, main_while0b_v69, main_while0b_v70, main_while0b_v71, main_while0b_v72, main_while0b_v73, main_while0b_cst_16, main_while0b_v74, main_while0b_v75, main_while0b_v76, main_while0b_cst_17]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call4_v0, main_while0b_call4_v1, main_while0b_v77]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_c_18, main_while0b_v78, main_while0b_c_19, main_while0b_v79, main_while0b_v80, main_while0b_v81, main_while0b_cst_20, main_while0b_v82, main_while0b_v83, main_while0b_c_21, main_while0b_v84, main_while0b_c_22, main_while0b_v85, main_while0b_v86, main_while0b_v87, main_while0b_c_23, main_while0b_v88, main_while0b_c_24, main_while0b_v89, main_v1_1, main_v1_2, main_v1_3]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_1` writes, in order. -/
abbrev hostOps0_1_W : List (Ref sig .tc) := [main_cst, main_v2, main_v3, main_cst_1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call5_v0, main_call5_v1, main_v4]
theorem hostOps0_2_writes : (hostOps0_2 : List (HloOp τ sig (Elt F))).Forall fun op => op.writes ⊆ (hostOps0_2_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_5 (constantI S_ 32 5000#32),
    StableHlo.binary main_v1_1 main_while0c_c_5 main_while0c_v5 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9]
abbrev postI : List (List (HloOp τ sig (Elt F))) := [hostOps0_1, hostOps0_2]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.nil))))))))))
theorem hpost : Plain (postI (F := F)) := .cons hostOps0_1_sub (hf := List.forall_iff_forall_mem.mp hostOps0_1_fresh) (.cons hostOps0_2_sub (hf := List.forall_iff_forall_mem.mp hostOps0_2_fresh) (.nil))

/-- The reference each operation of `condOps` writes, in order. -/
abbrev condOps_W : List (Ref sig .tc) := [main_while0c_c_5, main_while0c_v5]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v1_1`) is written by one stretch of the body, `while0Ops0_9`: not by the condition, nor by the
    body's other stretches. -/
theorem ctr_cond (V : Valuation τ sig (Elt F)) : after condOps V (Proc.devRef .tc main_v1_1) = V (Proc.devRef .tc main_v1_1) :=
  after_of_writes_sub condOps V condOps_writes (by decide +kernel)
theorem ctr_while0Ops0 (V : Valuation τ sig (Elt F)) : after while0Ops0 V (Proc.devRef .tc main_v1_1) = V (Proc.devRef .tc main_v1_1) :=
  after_of_writes_sub while0Ops0 V while0Ops0_writes (by decide +kernel)
theorem ctr_while0Ops0_1 (V : Valuation τ sig (Elt F)) : after while0Ops0_1 V (Proc.devRef .tc main_v1_1) = V (Proc.devRef .tc main_v1_1) :=
  after_of_writes_sub while0Ops0_1 V while0Ops0_1_writes (by decide +kernel)
theorem ctr_while0Ops0_2 (V : Valuation τ sig (Elt F)) : after while0Ops0_2 V (Proc.devRef .tc main_v1_1) = V (Proc.devRef .tc main_v1_1) :=
  after_of_writes_sub while0Ops0_2 V while0Ops0_2_writes (by decide +kernel)
theorem ctr_while0Ops0_3 (V : Valuation τ sig (Elt F)) : after while0Ops0_3 V (Proc.devRef .tc main_v1_1) = V (Proc.devRef .tc main_v1_1) :=
  after_of_writes_sub while0Ops0_3 V while0Ops0_3_writes (by decide +kernel)
theorem ctr_while0Ops0_4 (V : Valuation τ sig (Elt F)) : after while0Ops0_4 V (Proc.devRef .tc main_v1_1) = V (Proc.devRef .tc main_v1_1) :=
  after_of_writes_sub while0Ops0_4 V while0Ops0_4_writes (by decide +kernel)
theorem ctr_while0Ops0_5 (V : Valuation τ sig (Elt F)) : after while0Ops0_5 V (Proc.devRef .tc main_v1_1) = V (Proc.devRef .tc main_v1_1) :=
  after_of_writes_sub while0Ops0_5 V while0Ops0_5_writes (by decide +kernel)
theorem ctr_while0Ops0_6 (V : Valuation τ sig (Elt F)) : after while0Ops0_6 V (Proc.devRef .tc main_v1_1) = V (Proc.devRef .tc main_v1_1) :=
  after_of_writes_sub while0Ops0_6 V while0Ops0_6_writes (by decide +kernel)
theorem ctr_while0Ops0_7 (V : Valuation τ sig (Elt F)) : after while0Ops0_7 V (Proc.devRef .tc main_v1_1) = V (Proc.devRef .tc main_v1_1) :=
  after_of_writes_sub while0Ops0_7 V while0Ops0_7_writes (by decide +kernel)
theorem ctr_while0Ops0_8 (V : Valuation τ sig (Elt F)) : after while0Ops0_8 V (Proc.devRef .tc main_v1_1) = V (Proc.devRef .tc main_v1_1) :=
  after_of_writes_sub while0Ops0_8 V while0Ops0_8_writes (by decide +kernel)

/-- The body's operations 1 … 1 of 120. -/
abbrev trip_w0 : List (HloOp τ sig (Elt F)) :=
  [ StableHlo.nullary main_while0b_cst_5 (constant S_ .f32 0xFF800000#32) ]

/-- The body's operations 2 … 4 of 120. -/
abbrev trip_w1 : List (HloOp τ sig (Elt F)) :=
  [ StableHlo.TRef.unary (.of main_while0b_cst_5 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S5000, .f32⟩) (broadcastInDim S5000 ![] bcast_S_S5000),
    StableHlo.TRef.ternary (.of main_v1_3 : StableHlo.TRef sig ⟨S5000, .i1⟩) (.of main_while0b_call0_v1 : StableHlo.TRef sig ⟨S5000, .f32⟩) (.of main_v1_2 : StableHlo.TRef sig ⟨S5000, .f32⟩) (.of main_while0b_v5 : StableHlo.TRef sig ⟨S5000, .f32⟩) select ]

/-- The body's operations 5 … 9 of 120. -/
abbrev trip_w2 : List (HloOp τ sig (Elt F)) :=
  [ StableHlo.TRef.nullary (.of main_while0b_call1_v0 : StableHlo.TRef sig ⟨S5000, .i32⟩) (iotaInDim S5000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v5 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S5000_S_d0 h_S_ j).1),
    StableHlo.TRef.quaternary (.of main_while0b_v5 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_v6 : StableHlo.TRef sig ⟨S_, .i32⟩) (fun x y u v j => (Host.argReduce reducer_argmax_f32_i32 x y u v reducesTo_S5000_S_d0 h_S_ j).2) ]

/-- The body's operations 10 … 23 of 120. -/
abbrev trip_w3 : List (HloOp τ sig (Elt F)) :=
  [ StableHlo.nullary main_while0b_c_6 (constantI S_ 32 0#32),
    StableHlo.binary main_while0b_v6 main_while0b_c_6 main_while0b_v7 (cmpi .slt : (⟨S_, .i32⟩ : BufTy).Contents (Elt F) → (⟨S_, .i32⟩ : BufTy).Contents (Elt F) → (⟨S_, .i1⟩ : BufTy).Contents (Elt F)),
    StableHlo.nullary main_while0b_c_7 (constantI S_ 32 5000#32),
    StableHlo.binary main_while0b_v6 main_while0b_c_7 main_while0b_v8 (addi : (⟨S_, .i32⟩ : BufTy).Contents (Elt F) → (⟨S_, .i32⟩ : BufTy).Contents (Elt F) → (⟨S_, .i32⟩ : BufTy).Contents (Elt F)),
    StableHlo.ternary main_while0b_v7 main_while0b_v8 main_while0b_v6 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_8 (constantI S_ 32 0#32),
    StableHlo.nullary main_while0b_c_9 (constantI S_ 32 0#32),
    StableHlo.binary main_while0b_c_8 main_while0b_c_9 main_while0b_v10 (cmpi .slt : (⟨S_, .i32⟩ : BufTy).Contents (Elt F) → (⟨S_, .i32⟩ : BufTy).Contents (Elt F) → (⟨S_, .i1⟩ : BufTy).Contents (Elt F)),
    StableHlo.nullary main_while0b_c_10 (constantI S_ 32 0#32),
    StableHlo.nullary main_while0b_c_11 (constantI S_ 32 4#32),
    StableHlo.binary main_while0b_c_10 main_while0b_c_11 main_while0b_v11 (addi : (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.ternary main_while0b_v10 main_while0b_v11 main_while0b_c_12 main_while0b_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v1_0 ![main_while0b_v9, main_while0b_v12] ⟨S_, .i32⟩ main_while0b_v13 ((fun x i => Host.dynamicSlice S1x4 x (fun k => (i k (Shape.Idx.first h_S_)).toInt) sliceFits_S5000x4_S1x4) : (⟨S5000x4, .f32⟩ : BufTy).Contents (Elt F) → (Fin 2 → (⟨S_, .i32⟩ : BufTy).Contents (Elt F)) → (⟨S1x4, .f32⟩ : BufTy).Contents (Elt F)) ]

/-- The body's operations 24 … 47 of 120. -/
abbrev trip_w4 : List (HloOp τ sig (Elt F)) :=
  [ StableHlo.reshape main_while0b_v13 main_while0b_v14 (rfl : (.f32 : EltTy) = .f32) shapeCasts_S1x4_S4,
    StableHlo.unary main_while0b_v14 main_while0b_v15 ((extractStridedSlice S1 ![0] · slices_S4_S1_0) : (⟨S4, .f32⟩ : BufTy).Contents (Elt F) → (⟨S1, .f32⟩ : BufTy).Contents (Elt F)),
    StableHlo.reshape main_while0b_v15 main_while0b_v16 (rfl : (.f32 : EltTy) = .f32) shapeCasts_S1_S_,
    StableHlo.unary main_v1_0 main_while0b_v17 ((extractStridedSlice S5000x1 ![0, 0] · slices_S5000x4_S5000x1_0_0) : (⟨S5000x4, .f32⟩ : BufTy).Contents (Elt F) → (⟨S5000x1, .f32⟩ : BufTy).Contents (Elt F)),
    StableHlo.reshape main_while0b_v17 main_while0b_v18 (rfl : (.f32 : EltTy) = .f32) shapeCasts_S5000x1_S5000,
    StableHlo.unary main_while0b_v16 main_while0b_v19 (broadcastInDim S5000 ![] bcast_S_S5000 : (⟨S_, .f32⟩ : BufTy).Contents (Elt F) → (⟨S5000, .f32⟩ : BufTy).Contents (Elt F)),
    StableHlo.binary main_while0b_v19 main_while0b_v18 main_while0b_v20 (maximumf : (⟨S5000, .f32⟩ : BufTy).Contents (Elt F) → (⟨S5000, .f32⟩ : BufTy).Contents (Elt F) → (⟨S5000, .f32⟩ : BufTy).Contents (Elt F)),
    StableHlo.unary main_while0b_v14 main_while0b_v21 ((extractStridedSlice S1 ![1] · slices_S4_S1_1) : (⟨S4, .f32⟩ : BufTy).Contents (Elt F) → (⟨S1, .f32⟩ : BufTy).Contents (Elt F)),
    StableHlo.reshape main_while0b_v21 main_while0b_v22 (rfl : (.f32 : EltTy) = .f32) shapeCasts_S1_S_,
    StableHlo.unary main_v1_0 main_while0b_v23 ((extractStridedSlice S5000x1 ![0, 1] · slices_S5000x4_S5000x1_0_1) : (⟨S5000x4, .f32⟩ : BufTy).Contents (Elt F) → (⟨S5000x1, .f32⟩ : BufTy).Contents (Elt F)),
    StableHlo.reshape main_while0b_v23 main_while0b_v24 (rfl : (.f32 : EltTy) = .f32) shapeCasts_S5000x1_S5000,
    StableHlo.unary main_while0b_v22 main_while0b_v25 (broadcastInDim S5000 ![] bcast_S_S5000 : (⟨S_, .f32⟩ : BufTy).Contents (Elt F) → (⟨S5000, .f32⟩ : BufTy).Contents (Elt F)),
    StableHlo.binary main_while0b_v25 main_while0b_v24 main_while0b_v26 (maximumf : (⟨S5000, .f32⟩ : BufTy).Contents (Elt F) → (⟨S5000, .f32⟩ : BufTy).Contents (Elt F) → (⟨S5000, .f32⟩ : BufTy).Contents (Elt F)),
    StableHlo.unary main_while0b_v14 main_while0b_v27 ((extractStridedSlice S1 ![2] · slices_S4_S1_2) : (⟨S4, .f32⟩ : BufTy).Contents (Elt F) → (⟨S1, .f32⟩ : BufTy).Contents (Elt F)),
    StableHlo.reshape main_while0b_v27 main_while0b_v28 (rfl : (.f32 : EltTy) = .f32) shapeCasts_S1_S_,
    StableHlo.unary main_v1_0 main_while0b_v29 ((extractStridedSlice S5000x1 ![0, 2] · slices_S5000x4_S5000x1_0_2) : (⟨S5000x4, .f32⟩ : BufTy).Contents (Elt F) → (⟨S5000x1, .f32⟩ : BufTy).Contents (Elt F)),
    StableHlo.reshape main_while0b_v29 main_while0b_v30 (rfl : (.f32 : EltTy) = .f32) shapeCasts_S5000x1_S5000,
    StableHlo.unary main_while0b_v28 main_while0b_v31 (broadcastInDim S5000 ![] bcast_S_S5000 : (⟨S_, .f32⟩ : BufTy).Contents (Elt F) → (⟨S5000, .f32⟩ : BufTy).Contents (Elt F)),
    StableHlo.binary main_while0b_v31 main_while0b_v30 main_while0b_v32 (minimumf : (⟨S5000, .f32⟩ : BufTy).Contents (Elt F) → (⟨S5000, .f32⟩ : BufTy).Contents (Elt F) → (⟨S5000, .f32⟩ : BufTy).Contents (Elt F)),
    StableHlo.unary main_while0b_v14 main_while0b_v33 ((extractStridedSlice S1 ![3] · slices_S4_S1_3) : (⟨S4, .f32⟩ : BufTy).Contents (Elt F) → (⟨S1, .f32⟩ : BufTy).Contents (Elt F)),
    StableHlo.reshape main_while0b_v33 main_while0b_v34 (rfl : (.f32 : EltTy) = .f32) shapeCasts_S1_S_,
    StableHlo.unary main_v1_0 main_while0b_v35 ((extractStridedSlice S5000x1 ![0, 3] · slices_S5000x4_S5000x1_0_3) : (⟨S5000x4, .f32⟩ : BufTy).Contents (Elt F) → (⟨S5000x1, .f32⟩ : BufTy).Contents (Elt F)),
    StableHlo.reshape main_while0b_v35 main_while0b_v36 (rfl : (.f32 : EltTy) = .f32) shapeCasts_S5000x1_S5000,
    StableHlo.unary main_while0b_v34 main_while0b_v37 (broadcastInDim S5000 ![] bcast_S_S5000 : (⟨S_, .f32⟩ : BufTy).Contents (Elt F) → (⟨S5000, .f32⟩ : BufTy).Contents (Elt F)) ]

/-- The body's operations 48 … 50 of 120. -/
abbrev trip_w5 : List (HloOp τ sig (Elt F)) :=
  [ StableHlo.binary main_while0b_v37 main_while0b_v36 main_while0b_v38 (minimumf : (⟨S5000, .f32⟩ : BufTy).Contents (Elt F) → (⟨S5000, .f32⟩ : BufTy).Contents (Elt F) → (⟨S5000, .f32⟩ : BufTy).Contents (Elt F)),
    StableHlo.binary main_while0b_v32 main_while0b_v20 main_while0b_v39 (subf : (⟨S5000, .f32⟩ : BufTy).Contents (Elt F) → (⟨S5000, .f32⟩ : BufTy).Contents (Elt F) → (⟨S5000, .f32⟩ : BufTy).Contents (Elt F)),
    StableHlo.nullary main_while0b_cst_13 (constant S_ .f32 0x00000000#32) ]

/-- The body's operations 51 … 53 of 120. -/
abbrev trip_w6 : List (HloOp τ sig (Elt F)) :=
  [ StableHlo.TRef.unary (.of main_while0b_cst_13 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S5000, .f32⟩) (broadcastInDim S5000 ![] bcast_S_S5000),
    StableHlo.TRef.binary (.of main_while0b_call2_v1 : StableHlo.TRef sig ⟨S5000, .f32⟩) (.of main_while0b_v39 : StableHlo.TRef sig ⟨S5000, .f32⟩) (.of main_while0b_v40 : StableHlo.TRef sig ⟨S5000, .f32⟩) maximumf ]

/-- The body's operations 54 … 55 of 120. -/
abbrev trip_w7 : List (HloOp τ sig (Elt F)) :=
  [ StableHlo.binary main_while0b_v38 main_while0b_v26 main_while0b_v41 (subf : (⟨S5000, .f32⟩ : BufTy).Contents (Elt F) → (⟨S5000, .f32⟩ : BufTy).Contents (Elt F) → (⟨S5000, .f32⟩ : BufTy).Contents (Elt F)),
    StableHlo.nullary main_while0b_cst_14 (constant S_ .f32 0x00000000#32) ]

/-- The body's operations 56 … 58 of 120. -/
abbrev trip_w8 : List (HloOp τ sig (Elt F)) :=
  [ StableHlo.TRef.unary (.of main_while0b_cst_14 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S5000, .f32⟩) (broadcastInDim S5000 ![] bcast_S_S5000),
    StableHlo.TRef.binary (.of main_while0b_call3_v1 : StableHlo.TRef sig ⟨S5000, .f32⟩) (.of main_while0b_v41 : StableHlo.TRef sig ⟨S5000, .f32⟩) (.of main_while0b_v42 : StableHlo.TRef sig ⟨S5000, .f32⟩) maximumf ]

/-- The body's operations 59 … 82 of 120. -/
abbrev trip_w9 : List (HloOp τ sig (Elt F)) :=
  [ StableHlo.binary main_while0b_v40 main_while0b_v42 main_while0b_v43 (mulf : (⟨S5000, .f32⟩ : BufTy).Contents (Elt F) → (⟨S5000, .f32⟩ : BufTy).Contents (Elt F) → (⟨S5000, .f32⟩ : BufTy).Contents (Elt F)),
    StableHlo.unary main_while0b_v14 main_while0b_v44 ((extractStridedSlice S1 ![2] · slices_S4_S1_2) : (⟨S4, .f32⟩ : BufTy).Contents (Elt F) → (⟨S1, .f32⟩ : BufTy).Contents (Elt F)),
    StableHlo.reshape main_while0b_v44 main_while0b_v45 (rfl : (.f32 : EltTy) = .f32) shapeCasts_S1_S_,
    StableHlo.unary main_while0b_v14 main_while0b_v46 ((extractStridedSlice S1 ![0] · slices_S4_S1_0) : (⟨S4, .f32⟩ : BufTy).Contents (Elt F) → (⟨S1, .f32⟩ : BufTy).Contents (Elt F)),
    StableHlo.reshape main_while0b_v46 main_while0b_v47 (rfl : (.f32 : EltTy) = .f32) shapeCasts_S1_S_,
    StableHlo.binary main_while0b_v45 main_while0b_v47 main_while0b_v48 (subf : (⟨S_, .f32⟩ : BufTy).Contents (Elt F) → (⟨S_, .f32⟩ : BufTy).Contents (Elt F) → (⟨S_, .f32⟩ : BufTy).Contents (Elt F)),
    StableHlo.unary main_while0b_v14 main_while0b_v49 ((extractStridedSlice S1 ![3] · slices_S4_S1_3) : (⟨S4, .f32⟩ : BufTy).Contents (Elt F) → (⟨S1, .f32⟩ : BufTy).Contents (Elt F)),
    StableHlo.reshape main_while0b_v49 main_while0b_v50 (rfl : (.f32 : EltTy) = .f32) shapeCasts_S1_S_,
    StableHlo.unary main_while0b_v14 main_while0b_v51 ((extractStridedSlice S1 ![1] · slices_S4_S1_1) : (⟨S4, .f32⟩ : BufTy).Contents (Elt F) → (⟨S1, .f32⟩ : BufTy).Contents (Elt F)),
    StableHlo.reshape main_while0b_v51 main_while0b_v52 (rfl : (.f32 : EltTy) = .f32) shapeCasts_S1_S_,
    StableHlo.binary main_while0b_v50 main_while0b_v52 main_while0b_v53 (subf : (⟨S_, .f32⟩ : BufTy).Contents (Elt F) → (⟨S_, .f32⟩ : BufTy).Contents (Elt F) → (⟨S_, .f32⟩ : BufTy).Contents (Elt F)),
    StableHlo.binary main_while0b_v48 main_while0b_v53 main_while0b_v54 (mulf : (⟨S_, .f32⟩ : BufTy).Contents (Elt F) → (⟨S_, .f32⟩ : BufTy).Contents (Elt F) → (⟨S_, .f32⟩ : BufTy).Contents (Elt F)),
    StableHlo.unary main_v1_0 main_while0b_v55 ((extractStridedSlice S5000x1 ![0, 2] · slices_S5000x4_S5000x1_0_2) : (⟨S5000x4, .f32⟩ : BufTy).Contents (Elt F) → (⟨S5000x1, .f32⟩ : BufTy).Contents (Elt F)),
    StableHlo.reshape main_while0b_v55 main_while0b_v56 (rfl : (.f32 : EltTy) = .f32) shapeCasts_S5000x1_S5000,
    StableHlo.unary main_v1_0 main_while0b_v57 ((extractStridedSlice S5000x1 ![0, 0] · slices_S5000x4_S5000x1_0_0) : (⟨S5000x4, .f32⟩ : BufTy).Contents (Elt F) → (⟨S5000x1, .f32⟩ : BufTy).Contents (Elt F)),
    StableHlo.reshape main_while0b_v57 main_while0b_v58 (rfl : (.f32 : EltTy) = .f32) shapeCasts_S5000x1_S5000,
    StableHlo.binary main_while0b_v56 main_while0b_v58 main_while0b_v59 (subf : (⟨S5000, .f32⟩ : BufTy).Contents (Elt F) → (⟨S5000, .f32⟩ : BufTy).Contents (Elt F) → (⟨S5000, .f32⟩ : BufTy).Contents (Elt F)),
    StableHlo.unary main_v1_0 main_while0b_v60 ((extractStridedSlice S5000x1 ![0, 3] · slices_S5000x4_S5000x1_0_3) : (⟨S5000x4, .f32⟩ : BufTy).Contents (Elt F) → (⟨S5000x1, .f32⟩ : BufTy).Contents (Elt F)),
    StableHlo.reshape main_while0b_v60 main_while0b_v61 (rfl : (.f32 : EltTy) = .f32) shapeCasts_S5000x1_S5000,
    StableHlo.unary main_v1_0 main_while0b_v62 ((extractStridedSlice S5000x1 ![0, 1] · slices_S5000x4_S5000x1_0_1) : (⟨S5000x4, .f32⟩ : BufTy).Contents (Elt F) → (⟨S5000x1, .f32⟩ : BufTy).Contents (Elt F)),
    StableHlo.reshape main_while0b_v62 main_while0b_v63 (rfl : (.f32 : EltTy) = .f32) shapeCasts_S5000x1_S5000,
    StableHlo.binary main_while0b_v61 main_while0b_v63 main_while0b_v64 (subf : (⟨S5000, .f32⟩ : BufTy).Contents (Elt F) → (⟨S5000, .f32⟩ : BufTy).Contents (Elt F) → (⟨S5000, .f32⟩ : BufTy).Contents (Elt F)),
    StableHlo.binary main_while0b_v59 main_while0b_v64 main_while0b_v65 (mulf : (⟨S5000, .f32⟩ : BufTy).Contents (Elt F) → (⟨S5000, .f32⟩ : BufTy).Contents (Elt F) → (⟨S5000, .f32⟩ : BufTy).Contents (Elt F)),
    StableHlo.unary main_while0b_v54 main_while0b_v66 (broadcastInDim S5000 ![] bcast_S_S5000 : (⟨S_, .f32⟩ : BufTy).Contents (Elt F) → (⟨S5000, .f32⟩ : BufTy).Contents (Elt F)) ]

/-- The body's operations 83 … 95 of 120. -/
abbrev trip_w10 : List (HloOp τ sig (Elt F)) :=
  [ StableHlo.binary main_while0b_v66 main_while0b_v65 main_while0b_v67 (addf : (⟨S5000, .f32⟩ : BufTy).Contents (Elt F) → (⟨S5000, .f32⟩ : BufTy).Contents (Elt F) → (⟨S5000, .f32⟩ : BufTy).Contents (Elt F)),
    StableHlo.binary main_while0b_v67 main_while0b_v43 main_while0b_v68 (subf : (⟨S5000, .f32⟩ : BufTy).Contents (Elt F) → (⟨S5000, .f32⟩ : BufTy).Contents (Elt F) → (⟨S5000, .f32⟩ : BufTy).Contents (Elt F)),
    StableHlo.nullary main_while0b_cst_15 (constant S_ .f32 0x358637BD#32),
    StableHlo.unary main_while0b_cst_15 main_while0b_v69 (broadcastInDim S5000 ![] bcast_S_S5000 : (⟨S_, .f32⟩ : BufTy).Contents (Elt F) → (⟨S5000, .f32⟩ : BufTy).Contents (Elt F)),
    StableHlo.binary main_while0b_v68 main_while0b_v69 main_while0b_v70 (addf : (⟨S5000, .f32⟩ : BufTy).Contents (Elt F) → (⟨S5000, .f32⟩ : BufTy).Contents (Elt F) → (⟨S5000, .f32⟩ : BufTy).Contents (Elt F)),
    StableHlo.binary main_while0b_v43 main_while0b_v70 main_while0b_v71 (Host.divf : (⟨S5000, .f32⟩ : BufTy).Contents (Elt F) → (⟨S5000, .f32⟩ : BufTy).Contents (Elt F) → (⟨S5000, .f32⟩ : BufTy).Contents (Elt F)),
    StableHlo.binary main_while0b_v71 main_while0b_v71 main_while0b_v72 (mulf : (⟨S5000, .f32⟩ : BufTy).Contents (Elt F) → (⟨S5000, .f32⟩ : BufTy).Contents (Elt F) → (⟨S5000, .f32⟩ : BufTy).Contents (Elt F)),
    StableHlo.unary main_while0b_v72 main_while0b_v73 (Host.negf : (⟨S5000, .f32⟩ : BufTy).Contents (Elt F) → (⟨S5000, .f32⟩ : BufTy).Contents (Elt F)),
    StableHlo.nullary main_while0b_cst_16 (constant S_ .f32 0x3F000000#32),
    StableHlo.unary main_while0b_cst_16 main_while0b_v74 (broadcastInDim S5000 ![] bcast_S_S5000 : (⟨S_, .f32⟩ : BufTy).Contents (Elt F) → (⟨S5000, .f32⟩ : BufTy).Contents (Elt F)),
    StableHlo.binary main_while0b_v73 main_while0b_v74 main_while0b_v75 (Host.divf : (⟨S5000, .f32⟩ : BufTy).Contents (Elt F) → (⟨S5000, .f32⟩ : BufTy).Contents (Elt F) → (⟨S5000, .f32⟩ : BufTy).Contents (Elt F)),
    StableHlo.unary main_while0b_v75 main_while0b_v76 (Host.exp : (⟨S5000, .f32⟩ : BufTy).Contents (Elt F) → (⟨S5000, .f32⟩ : BufTy).Contents (Elt F)),
    StableHlo.nullary main_while0b_cst_17 (constant S_ .f32 0x3F800000#32) ]

/-- The body's operations 96 … 98 of 120. -/
abbrev trip_w11 : List (HloOp τ sig (Elt F)) :=
  [ StableHlo.TRef.unary (.of main_while0b_cst_17 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S5000, .f32⟩) (broadcastInDim S5000 ![] bcast_S_S5000),
    StableHlo.TRef.ternary (.of main_v1_3 : StableHlo.TRef sig ⟨S5000, .i1⟩) (.of main_while0b_call4_v1 : StableHlo.TRef sig ⟨S5000, .f32⟩) (.of main_while0b_v76 : StableHlo.TRef sig ⟨S5000, .f32⟩) (.of main_while0b_v77 : StableHlo.TRef sig ⟨S5000, .f32⟩) select ]

/-- The body's operations 99 … 115 of 120. -/
abbrev trip_w12 : List (HloOp τ sig (Elt F)) :=
  [ StableHlo.nullary main_while0b_c_18 (constantI S_ 32 0#32),
    StableHlo.binary main_while0b_v6 main_while0b_c_18 main_while0b_v78 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 5000#32),
    StableHlo.binary main_while0b_v6 main_while0b_c_19 main_while0b_v79 (addi : (⟨S_, .i32⟩ : BufTy).Contents (Elt F) → (⟨S_, .i32⟩ : BufTy).Contents (Elt F) → (⟨S_, .i32⟩ : BufTy).Contents (Elt F)),
    StableHlo.ternary main_while0b_v78 main_while0b_v79 main_while0b_v6 main_while0b_v80 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v80 main_while0b_v81 (broadcastInDim S1 ![] bcast_S_S1 : (⟨S_, .i32⟩ : BufTy).Contents (Elt F) → (⟨S1, .i32⟩ : BufTy).Contents (Elt F)),
    StableHlo.nullary main_while0b_cst_20 (constant S_ .f32 0x3F800000#32),
    StableHlo.ternary main_while0b_v77 main_while0b_v81 main_while0b_cst_20 main_while0b_v82 ((fun x i u => Host.scatter scatter_S5000_S1_S__n_0_0_0 (fun _ b => b) x i u) : (⟨S5000, .f32⟩ : BufTy).Contents (Elt F) → (⟨S1, .i32⟩ : BufTy).Contents (Elt F) → (⟨S_, .f32⟩ : BufTy).Contents (Elt F) → (⟨S5000, .f32⟩ : BufTy).Contents (Elt F)),
    StableHlo.binary main_v1_2 main_while0b_v82 main_while0b_v83 (mulf : (⟨S5000, .f32⟩ : BufTy).Contents (Elt F) → (⟨S5000, .f32⟩ : BufTy).Contents (Elt F) → (⟨S5000, .f32⟩ : BufTy).Contents (Elt F)),
    StableHlo.nullary main_while0b_c_21 (constantI S_ 32 0#32),
    StableHlo.binary main_while0b_v6 main_while0b_c_21 main_while0b_v84 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 5000#32),
    StableHlo.binary main_while0b_v6 main_while0b_c_22 main_while0b_v85 (addi : (⟨S_, .i32⟩ : BufTy).Contents (Elt F) → (⟨S_, .i32⟩ : BufTy).Contents (Elt F) → (⟨S_, .i32⟩ : BufTy).Contents (Elt F)),
    StableHlo.ternary main_while0b_v84 main_while0b_v85 main_while0b_v6 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v86 main_while0b_v87 (broadcastInDim S1 ![] bcast_S_S1 : (⟨S_, .i32⟩ : BufTy).Contents (Elt F) → (⟨S1, .i32⟩ : BufTy).Contents (Elt F)),
    StableHlo.nullary main_while0b_c_23 (constantI S_ 1 1#1),
    StableHlo.ternary main_v1_3 main_while0b_v87 main_while0b_c_23 main_while0b_v88 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F)) ]

/-- The body's operations 116 … 120 of 120: the counter's step and the copies back into the carried buffers. -/
abbrev while0Ops0_9_step : List (HloOp τ sig (Elt F)) :=
  [ StableHlo.nullary main_while0b_c_24 (constantI S_ 32 1#32),
    StableHlo.binary main_v1_1 main_while0b_c_24 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v1_1 id,
    StableHlo.unary main_while0b_v83 main_v1_2 id,
    StableHlo.unary main_while0b_v88 main_v1_3 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 ++ (trip_w4 ++ (trip_w5)) := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 := rfl
set_option maxRecDepth 5000 in
/-- `while0Ops0_6` is its windows in order. -/
theorem while0Ops0_6_cut : (while0Ops0_6 : List (HloOp τ sig (Elt F))) = trip_w8 := rfl
set_option maxRecDepth 5000 in
/-- `while0Ops0_7` is its windows in order. -/
theorem while0Ops0_7_cut : (while0Ops0_7 : List (HloOp τ sig (Elt F))) = trip_w9 ++ (trip_w10) := rfl
set_option maxRecDepth 5000 in
/-- `while0Ops0_8` is its windows in order. -/
theorem while0Ops0_8_cut : (while0Ops0_8 : List (HloOp τ sig (Elt F))) = trip_w11 := rfl
set_option maxRecDepth 5000 in
/-- `while0Ops0_9` is its windows in order, then the step. -/
theorem while0Ops0_9_cut : (while0Ops0_9 : List (HloOp τ sig (Elt F))) = trip_w12 ++ (while0Ops0_9_step) := rfl

/-- The buffers that window `trip_w0`'s operations write. -/
abbrev trip_w0_W : List (Ref sig .tc) := [main_while0b_cst_5]
set_option maxRecDepth 8192 in
theorem trip_w0_writes : (trip_w0 : List (HloOp τ sig (Elt F))).Forall fun op => op.writes ⊆ (trip_w0_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w1`'s operations write. -/
abbrev trip_w1_W : List (Ref sig .tc) := [main_while0b_call0_v0, main_while0b_call0_v1, main_while0b_v5]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_call1_v0, main_while0b_call1_cst, main_while0b_call1_c, main_while0b_call1_v1_0, main_while0b_v6]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_c_6, main_while0b_v7, main_while0b_c_7, main_while0b_v8, main_while0b_v9, main_while0b_c_8, main_while0b_c_9, main_while0b_v10, main_while0b_c_10, main_while0b_c_11, main_while0b_v11, main_while0b_c_12, main_while0b_v12, main_while0b_v13]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v14, main_while0b_v15, main_while0b_v16, main_while0b_v17, main_while0b_v18, main_while0b_v19, main_while0b_v20, main_while0b_v21, main_while0b_v22, main_while0b_v23, main_while0b_v24, main_while0b_v25, main_while0b_v26, main_while0b_v27, main_while0b_v28, main_while0b_v29, main_while0b_v30, main_while0b_v31, main_while0b_v32, main_while0b_v33, main_while0b_v34, main_while0b_v35, main_while0b_v36, main_while0b_v37]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_v38, main_while0b_v39, main_while0b_cst_13]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_call2_v0, main_while0b_call2_v1, main_while0b_v40]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w7`'s operations write. -/
abbrev trip_w7_W : List (Ref sig .tc) := [main_while0b_v41, main_while0b_cst_14]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w8`'s operations write. -/
abbrev trip_w8_W : List (Ref sig .tc) := [main_while0b_call3_v0, main_while0b_call3_v1, main_while0b_v42]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w9`'s operations write. -/
abbrev trip_w9_W : List (Ref sig .tc) := [main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_v66]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w10`'s operations write. -/
abbrev trip_w10_W : List (Ref sig .tc) := [main_while0b_v67, main_while0b_v68, main_while0b_cst_15, main_while0b_v69, main_while0b_v70, main_while0b_v71, main_while0b_v72, main_while0b_v73, main_while0b_cst_16, main_while0b_v74, main_while0b_v75, main_while0b_v76, main_while0b_cst_17]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w11`'s operations write. -/
abbrev trip_w11_W : List (Ref sig .tc) := [main_while0b_call4_v0, main_while0b_call4_v1, main_while0b_v77]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w12`'s operations write. -/
abbrev trip_w12_W : List (Ref sig .tc) := [main_while0b_c_18, main_while0b_v78, main_while0b_c_19, main_while0b_v79, main_while0b_v80, main_while0b_v81, main_while0b_cst_20, main_while0b_v82, main_while0b_v83, main_while0b_c_21, main_while0b_v84, main_while0b_c_22, main_while0b_v85, main_while0b_v86, main_while0b_v87, main_while0b_c_23, main_while0b_v88]
set_option maxRecDepth 8192 in
theorem trip_w12_writes : (trip_w12 : List (HloOp τ sig (Elt F))).Forall fun op => op.writes ⊆ (trip_w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w12 (V : Valuation τ sig (Elt F)) : after trip_w12 V (Proc.devRef .tc main_v1_1) = V (Proc.devRef .tc main_v1_1) :=
  after_of_writes_sub trip_w12 V trip_w12_writes (by decide +kernel)

set_option maxRecDepth 100000 in
/-- `while0Ops0_9_step` leaves the counter one step on. -/
theorem ctr_while0Ops0_9_step (Y : Valuation τ sig (Elt F)) :
    after while0Ops0_9_step Y (Proc.devRef .tc main_v1_1) = addi (Y (Proc.devRef .tc main_v1_1)) (constantI S_ 32 1#32) := by
  after_results
  rfl

set_option maxRecDepth 100000 in
/-- `while0Ops0_9` leaves the counter one step on: its windows do not write the counter, and `while0Ops0_9_step` steps it. -/
theorem ctr_step (X : Valuation τ sig (Elt F)) :
    after while0Ops0_9 X (Proc.devRef .tc main_v1_1) = addi (X (Proc.devRef .tc main_v1_1)) (constantI S_ 32 1#32) := by
  simp only [while0Ops0_9_cut, after_append]
  rw [ctr_while0Ops0_9_step, ctr_trip_w12]

/-- The counter is the loop's lower bound at the loop's entry: its last writer before the loop read back. -/
theorem ctr_entry (c : Dev nD) : entryContents preI m c (Proc.devRef .tc main_v1_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v1_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 5000 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v1_1 HostLoop.idx0)
        (HloOp.result _ (atK m k c) main_while0c_c_5 HostLoop.idx0) = 1#1) (k < 5000)
    rw [nullary_result_ne _ _ _ _ (by decide), nullary_result, hctr]
    exact Scf.cmpi_slt_iv_ub_iff (lb := 0#32) (ub := 5000#32) (st := 1#32) (by decide) (show k ≤ Scf.trips 0#32 5000#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 5000 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 5000 m ρ (cond_spec m)

end Cert.RefRun

end
-- ==== Proof.Ref.Step.lean ====
/-
  One trip of the reference's loop as a function of the buffers it carries (`STEP`), and the reference's run stated by it:
  the result is `STEP` iterated 5000 times on the loop's entry, then masked by the threshold.
-/
module

public import proofs.«01_k».proof.Proof.Ref.Fold

@[expose] public section

-- a long stretch's `::` list and the decided enumerations over the program's references recurse past the default depth
set_option maxRecDepth 1044

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

set_option maxRecDepth 8192 in
/-- `main_while0b_v6`'s composed term of the carried buffers (named: it is used 9 times). -/
def res_main_while0b_v6 (V0 : Valuation τ sig (Elt F)) : (Proc.devRef .tc main_while0b_v6 : DevRef τ sig).ty.Contents (Elt F) :=
  fun j => (Host.argReduce reducer_argmax_f32_i32 (select (V0 (Proc.devRef .tc main_v1_3)) (broadcastInDim S5000 ![] bcast_S_S5000 (id (constant S_ .f32 0xFF800000#32))) (V0 (Proc.devRef .tc main_v1_2))) (iotaInDim S5000 32 0) (constant S_ .f32 0xFF800000#32) (constantI S_ 32 0#32) reducesTo_S5000_S_d0 h_S_ j).2

set_option maxRecDepth 8192 in
/-- `main_while0b_v14`'s composed term of the carried buffers (named: it is used 8 times). -/
def res_main_while0b_v14 (V0 : Valuation τ sig (Elt F)) : (Proc.devRef .tc main_while0b_v14 : DevRef τ sig).ty.Contents (Elt F) :=
  shapeCast S4 (Host.dynamicSlice S1x4 (V0 (Proc.devRef .tc main_v1_0)) (fun k => (((![select (cmpi .slt (res_main_while0b_v6 V0) (constantI S_ 32 0#32)) (addi (res_main_while0b_v6 V0) (constantI S_ 32 5000#32)) (res_main_while0b_v6 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S5000x4_S1x4) shapeCasts_S1x4_S4

set_option maxRecDepth 8192 in
/-- `main_while0b_v43`'s composed term of the carried buffers (named: it is used 2 times). -/
def res_main_while0b_v43 (V0 : Valuation τ sig (Elt F)) : (Proc.devRef .tc main_while0b_v43 : DevRef τ sig).ty.Contents (Elt F) :=
  mulf (maximumf (broadcastInDim S5000 ![] bcast_S_S5000 (id (constant S_ .f32 0x00000000#32))) (subf (minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000)) (maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000)))) (maximumf (broadcastInDim S5000 ![] bcast_S_S5000 (id (constant S_ .f32 0x00000000#32))) (subf (minimumf (broadcastInDim S5000 ![] bcast_S_S5000 (shapeCast S_ (extractStridedSlice S1 ![3] (res_main_while0b_v14 V0) slices_S4_S1_3) shapeCasts_S1_S_)) (shapeCast S5000 (extractStridedSlice S5000x1 ![0, 3] (V0 (Proc.devRef .tc main_v1_0)) slices_S5000x4_S5000x1_0_3) shapeCasts_S5000x1_S5000)) (maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000))))

set_option maxRecDepth 8192 in
/-- `main_while0b_v71`'s composed term of the carried buffers (named: it is used 2 times). -/
def res_main_while0b_v71 (V0 : Valuation τ sig (Elt F)) : (Proc.devRef .tc main_while0b_v71 : DevRef τ sig).ty.Contents (Elt F) :=
  Host.divf (res_main_while0b_v43 V0) (addf (subf (addf (broadcastInDim S5000 ![] bcast_S_S5000 (mulf (subf (shapeCast S_ (extractStridedSlice S1 ![2] (res_main_while0b_v14 V0) slices_S4_S1_2) shapeCasts_S1_S_) (shapeCast S_ (extractStridedSlice S1 ![0] (res_main_while0b_v14 V0) slices_S4_S1_0) shapeCasts_S1_S_)) (subf (shapeCast S_ (extractStridedSlice S1 ![3] (res_main_while0b_v14 V0) slices_S4_S1_3) shapeCasts_S1_S_) (shapeCast S_ (extractStridedSlice S1 ![1] (res_main_while0b_v14 V0) slices_S4_S1_1) shapeCasts_S1_S_)))) (mulf (subf (shapeCast S5000 (extractStridedSlice S5000x1 ![0, 2] (V0 (Proc.devRef .tc main_v1_0)) slices_S5000x4_S5000x1_0_2) shapeCasts_S5000x1_S5000) (shapeCast S5000 (extractStridedSlice S5000x1 ![0, 0] (V0 (Proc.devRef .tc main_v1_0)) slices_S5000x4_S5000x1_0_0) shapeCasts_S5000x1_S5000)) (subf (shapeCast S5000 (extractStridedSlice S5000x1 ![0, 3] (V0 (Proc.devRef .tc main_v1_0)) slices_S5000x4_S5000x1_0_3) shapeCasts_S5000x1_S5000) (shapeCast S5000 (extractStridedSlice S5000x1 ![0, 1] (V0 (Proc.devRef .tc main_v1_0)) slices_S5000x4_S5000x1_0_1) shapeCasts_S5000x1_S5000)))) (res_main_while0b_v43 V0)) (broadcastInDim S5000 ![] bcast_S_S5000 (constant S_ .f32 0x358637BD#32)))

/-- The device's buffer contents before the body's first window. -/
def val0 (V0 : Valuation τ sig (Elt F)) : Valuation τ sig (Elt F) := V0
theorem val0_main_v1_3 (V0 : Valuation τ sig (Elt F)) : val0 V0 (no_index (Proc.devRef .tc main_v1_3)) = V0 (Proc.devRef .tc main_v1_3) := rfl
theorem val0_main_v1_2 (V0 : Valuation τ sig (Elt F)) : val0 V0 (no_index (Proc.devRef .tc main_v1_2)) = V0 (Proc.devRef .tc main_v1_2) := rfl
theorem val0_main_v1_0 (V0 : Valuation τ sig (Elt F)) : val0 V0 (no_index (Proc.devRef .tc main_v1_0)) = V0 (Proc.devRef .tc main_v1_0) := rfl
theorem val0_main_v1_1 (V0 : Valuation τ sig (Elt F)) : val0 V0 (no_index (Proc.devRef .tc main_v1_1)) = V0 (Proc.devRef .tc main_v1_1) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v1_3 (V0 : Valuation τ sig (Elt F)) : val1 V0 (no_index (Proc.devRef .tc main_v1_3)) = V0 (Proc.devRef .tc main_v1_3) :=
  (val1_keep V0 main_v1_3 (by decide)).trans (val0_main_v1_3 V0)
theorem val1_main_v1_2 (V0 : Valuation τ sig (Elt F)) : val1 V0 (no_index (Proc.devRef .tc main_v1_2)) = V0 (Proc.devRef .tc main_v1_2) :=
  (val1_keep V0 main_v1_2 (by decide)).trans (val0_main_v1_2 V0)
theorem val1_main_v1_0 (V0 : Valuation τ sig (Elt F)) : val1 V0 (no_index (Proc.devRef .tc main_v1_0)) = V0 (Proc.devRef .tc main_v1_0) :=
  (val1_keep V0 main_v1_0 (by decide)).trans (val0_main_v1_0 V0)
theorem val1_main_v1_1 (V0 : Valuation τ sig (Elt F)) : val1 V0 (no_index (Proc.devRef .tc main_v1_1)) = V0 (Proc.devRef .tc main_v1_1) :=
  (val1_keep V0 main_v1_1 (by decide)).trans (val0_main_v1_1 V0)
set_option maxRecDepth 8192 in
theorem val1_main_while0b_cst_5 (V0 : Valuation τ sig (Elt F)) : val1 V0 (no_index (Proc.devRef .tc main_while0b_cst_5)) = constant S_ .f32 0xFF800000#32 := by
  unfold val1
  simp only [trip_w0]
  after_results_entrywise [cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v1_3 (V0 : Valuation τ sig (Elt F)) : val2 V0 (no_index (Proc.devRef .tc main_v1_3)) = V0 (Proc.devRef .tc main_v1_3) :=
  (val2_keep V0 main_v1_3 (by decide)).trans (val1_main_v1_3 V0)
theorem val2_main_v1_2 (V0 : Valuation τ sig (Elt F)) : val2 V0 (no_index (Proc.devRef .tc main_v1_2)) = V0 (Proc.devRef .tc main_v1_2) :=
  (val2_keep V0 main_v1_2 (by decide)).trans (val1_main_v1_2 V0)
theorem val2_main_v1_0 (V0 : Valuation τ sig (Elt F)) : val2 V0 (no_index (Proc.devRef .tc main_v1_0)) = V0 (Proc.devRef .tc main_v1_0) :=
  (val2_keep V0 main_v1_0 (by decide)).trans (val1_main_v1_0 V0)
theorem val2_main_v1_1 (V0 : Valuation τ sig (Elt F)) : val2 V0 (no_index (Proc.devRef .tc main_v1_1)) = V0 (Proc.devRef .tc main_v1_1) :=
  (val2_keep V0 main_v1_1 (by decide)).trans (val1_main_v1_1 V0)
set_option maxRecDepth 8192 in
theorem val2_main_while0b_v5 (V0 : Valuation τ sig (Elt F)) : val2 V0 (no_index (Proc.devRef .tc main_while0b_v5)) = select (V0 (Proc.devRef .tc main_v1_3)) (broadcastInDim S5000 ![] bcast_S_S5000 (id (constant S_ .f32 0xFF800000#32))) (V0 (Proc.devRef .tc main_v1_2)) := by
  unfold val2
  simp only [trip_w1]
  after_results_entrywise [val1_main_v1_2, val1_main_while0b_cst_5, val1_main_v1_3, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v1_3 (V0 : Valuation τ sig (Elt F)) : val3 V0 (no_index (Proc.devRef .tc main_v1_3)) = V0 (Proc.devRef .tc main_v1_3) :=
  (val3_keep V0 main_v1_3 (by decide)).trans (val2_main_v1_3 V0)
theorem val3_main_v1_2 (V0 : Valuation τ sig (Elt F)) : val3 V0 (no_index (Proc.devRef .tc main_v1_2)) = V0 (Proc.devRef .tc main_v1_2) :=
  (val3_keep V0 main_v1_2 (by decide)).trans (val2_main_v1_2 V0)
theorem val3_main_v1_0 (V0 : Valuation τ sig (Elt F)) : val3 V0 (no_index (Proc.devRef .tc main_v1_0)) = V0 (Proc.devRef .tc main_v1_0) :=
  (val3_keep V0 main_v1_0 (by decide)).trans (val2_main_v1_0 V0)
theorem val3_main_v1_1 (V0 : Valuation τ sig (Elt F)) : val3 V0 (no_index (Proc.devRef .tc main_v1_1)) = V0 (Proc.devRef .tc main_v1_1) :=
  (val3_keep V0 main_v1_1 (by decide)).trans (val2_main_v1_1 V0)
set_option maxRecDepth 8192 in
theorem val3_main_while0b_v6 (V0 : Valuation τ sig (Elt F)) : val3 V0 (no_index (Proc.devRef .tc main_while0b_v6)) = res_main_while0b_v6 V0 := by
  unfold val3
  simp only [trip_w2]
  after_results_entrywise [val2_main_while0b_v5, res_main_while0b_v6, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v1_3 (V0 : Valuation τ sig (Elt F)) : val4 V0 (no_index (Proc.devRef .tc main_v1_3)) = V0 (Proc.devRef .tc main_v1_3) :=
  (val4_keep V0 main_v1_3 (by decide)).trans (val3_main_v1_3 V0)
theorem val4_main_v1_2 (V0 : Valuation τ sig (Elt F)) : val4 V0 (no_index (Proc.devRef .tc main_v1_2)) = V0 (Proc.devRef .tc main_v1_2) :=
  (val4_keep V0 main_v1_2 (by decide)).trans (val3_main_v1_2 V0)
theorem val4_main_v1_0 (V0 : Valuation τ sig (Elt F)) : val4 V0 (no_index (Proc.devRef .tc main_v1_0)) = V0 (Proc.devRef .tc main_v1_0) :=
  (val4_keep V0 main_v1_0 (by decide)).trans (val3_main_v1_0 V0)
theorem val4_main_v1_1 (V0 : Valuation τ sig (Elt F)) : val4 V0 (no_index (Proc.devRef .tc main_v1_1)) = V0 (Proc.devRef .tc main_v1_1) :=
  (val4_keep V0 main_v1_1 (by decide)).trans (val3_main_v1_1 V0)
theorem val4_main_while0b_v6 (V0 : Valuation τ sig (Elt F)) : val4 V0 (no_index (Proc.devRef .tc main_while0b_v6)) = res_main_while0b_v6 V0 :=
  (val4_keep V0 main_while0b_v6 (by decide)).trans (val3_main_while0b_v6 V0)
set_option maxRecDepth 8192 in
set_option maxHeartbeats 1400000 in
theorem val4_main_while0b_v13 (V0 : Valuation τ sig (Elt F)) : val4 V0 (no_index (Proc.devRef .tc main_while0b_v13)) = Host.dynamicSlice S1x4 (V0 (Proc.devRef .tc main_v1_0)) (fun k => (((![select (cmpi .slt (res_main_while0b_v6 V0) (constantI S_ 32 0#32)) (addi (res_main_while0b_v6 V0) (constantI S_ 32 5000#32)) (res_main_while0b_v6 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S5000x4_S1x4 := by
  unfold val4
  simp only [trip_w3]
  after_results_entrywise [val3_main_while0b_v6, val3_main_v1_0, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v1_3 (V0 : Valuation τ sig (Elt F)) : val5 V0 (no_index (Proc.devRef .tc main_v1_3)) = V0 (Proc.devRef .tc main_v1_3) :=
  (val5_keep V0 main_v1_3 (by decide)).trans (val4_main_v1_3 V0)
theorem val5_main_v1_2 (V0 : Valuation τ sig (Elt F)) : val5 V0 (no_index (Proc.devRef .tc main_v1_2)) = V0 (Proc.devRef .tc main_v1_2) :=
  (val5_keep V0 main_v1_2 (by decide)).trans (val4_main_v1_2 V0)
theorem val5_main_v1_0 (V0 : Valuation τ sig (Elt F)) : val5 V0 (no_index (Proc.devRef .tc main_v1_0)) = V0 (Proc.devRef .tc main_v1_0) :=
  (val5_keep V0 main_v1_0 (by decide)).trans (val4_main_v1_0 V0)
theorem val5_main_v1_1 (V0 : Valuation τ sig (Elt F)) : val5 V0 (no_index (Proc.devRef .tc main_v1_1)) = V0 (Proc.devRef .tc main_v1_1) :=
  (val5_keep V0 main_v1_1 (by decide)).trans (val4_main_v1_1 V0)
theorem val5_main_while0b_v6 (V0 : Valuation τ sig (Elt F)) : val5 V0 (no_index (Proc.devRef .tc main_while0b_v6)) = res_main_while0b_v6 V0 :=
  (val5_keep V0 main_while0b_v6 (by decide)).trans (val4_main_while0b_v6 V0)
set_option maxRecDepth 8192 in
set_option maxHeartbeats 2000000 in
theorem val5_main_while0b_v14 (V0 : Valuation τ sig (Elt F)) : val5 V0 (no_index (Proc.devRef .tc main_while0b_v14)) = res_main_while0b_v14 V0 := by
  unfold val5
  simp only [trip_w4]
  after_results_entrywise [val4_main_while0b_v13, res_main_while0b_v14, cast_eq]
set_option maxRecDepth 8192 in
set_option maxHeartbeats 2000000 in
theorem val5_main_while0b_v20 (V0 : Valuation τ sig (Elt F)) : val5 V0 (no_index (Proc.devRef .tc main_while0b_v20)) = maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000) := by
  unfold val5
  simp only [trip_w4]
  after_results_entrywise [val4_main_v1_0, val4_main_while0b_v13, res_main_while0b_v14, cast_eq]
set_option maxRecDepth 8192 in
set_option maxHeartbeats 2000000 in
theorem val5_main_while0b_v26 (V0 : Valuation τ sig (Elt F)) : val5 V0 (no_index (Proc.devRef .tc main_while0b_v26)) = maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000) := by
  unfold val5
  simp only [trip_w4]
  after_results_entrywise [val4_main_v1_0, val4_main_while0b_v13, res_main_while0b_v14, cast_eq]
set_option maxRecDepth 8192 in
set_option maxHeartbeats 2000000 in
theorem val5_main_while0b_v32 (V0 : Valuation τ sig (Elt F)) : val5 V0 (no_index (Proc.devRef .tc main_while0b_v32)) = minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000) := by
  unfold val5
  simp only [trip_w4]
  after_results_entrywise [val4_main_v1_0, val4_main_while0b_v13, res_main_while0b_v14, cast_eq]
set_option maxRecDepth 8192 in
set_option maxHeartbeats 2000000 in
theorem val5_main_while0b_v36 (V0 : Valuation τ sig (Elt F)) : val5 V0 (no_index (Proc.devRef .tc main_while0b_v36)) = shapeCast S5000 (extractStridedSlice S5000x1 ![0, 3] (V0 (Proc.devRef .tc main_v1_0)) slices_S5000x4_S5000x1_0_3) shapeCasts_S5000x1_S5000 := by
  unfold val5
  simp only [trip_w4]
  after_results_entrywise [val4_main_v1_0, cast_eq]
set_option maxRecDepth 8192 in
set_option maxHeartbeats 2000000 in
theorem val5_main_while0b_v37 (V0 : Valuation τ sig (Elt F)) : val5 V0 (no_index (Proc.devRef .tc main_while0b_v37)) = broadcastInDim S5000 ![] bcast_S_S5000 (shapeCast S_ (extractStridedSlice S1 ![3] (res_main_while0b_v14 V0) slices_S4_S1_3) shapeCasts_S1_S_) := by
  unfold val5
  simp only [trip_w4]
  after_results_entrywise [val4_main_while0b_v13, res_main_while0b_v14, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v1_3 (V0 : Valuation τ sig (Elt F)) : val6 V0 (no_index (Proc.devRef .tc main_v1_3)) = V0 (Proc.devRef .tc main_v1_3) :=
  (val6_keep V0 main_v1_3 (by decide)).trans (val5_main_v1_3 V0)
theorem val6_main_v1_2 (V0 : Valuation τ sig (Elt F)) : val6 V0 (no_index (Proc.devRef .tc main_v1_2)) = V0 (Proc.devRef .tc main_v1_2) :=
  (val6_keep V0 main_v1_2 (by decide)).trans (val5_main_v1_2 V0)
theorem val6_main_v1_0 (V0 : Valuation τ sig (Elt F)) : val6 V0 (no_index (Proc.devRef .tc main_v1_0)) = V0 (Proc.devRef .tc main_v1_0) :=
  (val6_keep V0 main_v1_0 (by decide)).trans (val5_main_v1_0 V0)
theorem val6_main_v1_1 (V0 : Valuation τ sig (Elt F)) : val6 V0 (no_index (Proc.devRef .tc main_v1_1)) = V0 (Proc.devRef .tc main_v1_1) :=
  (val6_keep V0 main_v1_1 (by decide)).trans (val5_main_v1_1 V0)
theorem val6_main_while0b_v6 (V0 : Valuation τ sig (Elt F)) : val6 V0 (no_index (Proc.devRef .tc main_while0b_v6)) = res_main_while0b_v6 V0 :=
  (val6_keep V0 main_while0b_v6 (by decide)).trans (val5_main_while0b_v6 V0)
theorem val6_main_while0b_v14 (V0 : Valuation τ sig (Elt F)) : val6 V0 (no_index (Proc.devRef .tc main_while0b_v14)) = res_main_while0b_v14 V0 :=
  (val6_keep V0 main_while0b_v14 (by decide)).trans (val5_main_while0b_v14 V0)
theorem val6_main_while0b_v26 (V0 : Valuation τ sig (Elt F)) : val6 V0 (no_index (Proc.devRef .tc main_while0b_v26)) = maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000) :=
  (val6_keep V0 main_while0b_v26 (by decide)).trans (val5_main_while0b_v26 V0)
set_option maxRecDepth 8192 in
theorem val6_main_while0b_v38 (V0 : Valuation τ sig (Elt F)) : val6 V0 (no_index (Proc.devRef .tc main_while0b_v38)) = minimumf (broadcastInDim S5000 ![] bcast_S_S5000 (shapeCast S_ (extractStridedSlice S1 ![3] (res_main_while0b_v14 V0) slices_S4_S1_3) shapeCasts_S1_S_)) (shapeCast S5000 (extractStridedSlice S5000x1 ![0, 3] (V0 (Proc.devRef .tc main_v1_0)) slices_S5000x4_S5000x1_0_3) shapeCasts_S5000x1_S5000) := by
  unfold val6
  simp only [trip_w5]
  after_results_entrywise [val5_main_while0b_v36, val5_main_while0b_v37, cast_eq]
set_option maxRecDepth 8192 in
theorem val6_main_while0b_v39 (V0 : Valuation τ sig (Elt F)) : val6 V0 (no_index (Proc.devRef .tc main_while0b_v39)) = subf (minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000)) (maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000)) := by
  unfold val6
  simp only [trip_w5]
  after_results_entrywise [val5_main_while0b_v20, val5_main_while0b_v32, cast_eq]
set_option maxRecDepth 8192 in
theorem val6_main_while0b_cst_13 (V0 : Valuation τ sig (Elt F)) : val6 V0 (no_index (Proc.devRef .tc main_while0b_cst_13)) = constant S_ .f32 0x00000000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v1_3 (V0 : Valuation τ sig (Elt F)) : val7 V0 (no_index (Proc.devRef .tc main_v1_3)) = V0 (Proc.devRef .tc main_v1_3) :=
  (val7_keep V0 main_v1_3 (by decide)).trans (val6_main_v1_3 V0)
theorem val7_main_v1_2 (V0 : Valuation τ sig (Elt F)) : val7 V0 (no_index (Proc.devRef .tc main_v1_2)) = V0 (Proc.devRef .tc main_v1_2) :=
  (val7_keep V0 main_v1_2 (by decide)).trans (val6_main_v1_2 V0)
theorem val7_main_v1_0 (V0 : Valuation τ sig (Elt F)) : val7 V0 (no_index (Proc.devRef .tc main_v1_0)) = V0 (Proc.devRef .tc main_v1_0) :=
  (val7_keep V0 main_v1_0 (by decide)).trans (val6_main_v1_0 V0)
theorem val7_main_v1_1 (V0 : Valuation τ sig (Elt F)) : val7 V0 (no_index (Proc.devRef .tc main_v1_1)) = V0 (Proc.devRef .tc main_v1_1) :=
  (val7_keep V0 main_v1_1 (by decide)).trans (val6_main_v1_1 V0)
theorem val7_main_while0b_v6 (V0 : Valuation τ sig (Elt F)) : val7 V0 (no_index (Proc.devRef .tc main_while0b_v6)) = res_main_while0b_v6 V0 :=
  (val7_keep V0 main_while0b_v6 (by decide)).trans (val6_main_while0b_v6 V0)
theorem val7_main_while0b_v14 (V0 : Valuation τ sig (Elt F)) : val7 V0 (no_index (Proc.devRef .tc main_while0b_v14)) = res_main_while0b_v14 V0 :=
  (val7_keep V0 main_while0b_v14 (by decide)).trans (val6_main_while0b_v14 V0)
theorem val7_main_while0b_v26 (V0 : Valuation τ sig (Elt F)) : val7 V0 (no_index (Proc.devRef .tc main_while0b_v26)) = maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000) :=
  (val7_keep V0 main_while0b_v26 (by decide)).trans (val6_main_while0b_v26 V0)
theorem val7_main_while0b_v38 (V0 : Valuation τ sig (Elt F)) : val7 V0 (no_index (Proc.devRef .tc main_while0b_v38)) = minimumf (broadcastInDim S5000 ![] bcast_S_S5000 (shapeCast S_ (extractStridedSlice S1 ![3] (res_main_while0b_v14 V0) slices_S4_S1_3) shapeCasts_S1_S_)) (shapeCast S5000 (extractStridedSlice S5000x1 ![0, 3] (V0 (Proc.devRef .tc main_v1_0)) slices_S5000x4_S5000x1_0_3) shapeCasts_S5000x1_S5000) :=
  (val7_keep V0 main_while0b_v38 (by decide)).trans (val6_main_while0b_v38 V0)
set_option maxRecDepth 8192 in
theorem val7_main_while0b_v40 (V0 : Valuation τ sig (Elt F)) : val7 V0 (no_index (Proc.devRef .tc main_while0b_v40)) = maximumf (broadcastInDim S5000 ![] bcast_S_S5000 (id (constant S_ .f32 0x00000000#32))) (subf (minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000)) (maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000))) := by
  unfold val7
  simp only [trip_w6]
  after_results_entrywise [val6_main_while0b_v39, val6_main_while0b_cst_13, cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v1_3 (V0 : Valuation τ sig (Elt F)) : val8 V0 (no_index (Proc.devRef .tc main_v1_3)) = V0 (Proc.devRef .tc main_v1_3) :=
  (val8_keep V0 main_v1_3 (by decide)).trans (val7_main_v1_3 V0)
theorem val8_main_v1_2 (V0 : Valuation τ sig (Elt F)) : val8 V0 (no_index (Proc.devRef .tc main_v1_2)) = V0 (Proc.devRef .tc main_v1_2) :=
  (val8_keep V0 main_v1_2 (by decide)).trans (val7_main_v1_2 V0)
theorem val8_main_v1_0 (V0 : Valuation τ sig (Elt F)) : val8 V0 (no_index (Proc.devRef .tc main_v1_0)) = V0 (Proc.devRef .tc main_v1_0) :=
  (val8_keep V0 main_v1_0 (by decide)).trans (val7_main_v1_0 V0)
theorem val8_main_v1_1 (V0 : Valuation τ sig (Elt F)) : val8 V0 (no_index (Proc.devRef .tc main_v1_1)) = V0 (Proc.devRef .tc main_v1_1) :=
  (val8_keep V0 main_v1_1 (by decide)).trans (val7_main_v1_1 V0)
theorem val8_main_while0b_v6 (V0 : Valuation τ sig (Elt F)) : val8 V0 (no_index (Proc.devRef .tc main_while0b_v6)) = res_main_while0b_v6 V0 :=
  (val8_keep V0 main_while0b_v6 (by decide)).trans (val7_main_while0b_v6 V0)
theorem val8_main_while0b_v14 (V0 : Valuation τ sig (Elt F)) : val8 V0 (no_index (Proc.devRef .tc main_while0b_v14)) = res_main_while0b_v14 V0 :=
  (val8_keep V0 main_while0b_v14 (by decide)).trans (val7_main_while0b_v14 V0)
theorem val8_main_while0b_v40 (V0 : Valuation τ sig (Elt F)) : val8 V0 (no_index (Proc.devRef .tc main_while0b_v40)) = maximumf (broadcastInDim S5000 ![] bcast_S_S5000 (id (constant S_ .f32 0x00000000#32))) (subf (minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000)) (maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000))) :=
  (val8_keep V0 main_while0b_v40 (by decide)).trans (val7_main_while0b_v40 V0)
set_option maxRecDepth 8192 in
theorem val8_main_while0b_v41 (V0 : Valuation τ sig (Elt F)) : val8 V0 (no_index (Proc.devRef .tc main_while0b_v41)) = subf (minimumf (broadcastInDim S5000 ![] bcast_S_S5000 (shapeCast S_ (extractStridedSlice S1 ![3] (res_main_while0b_v14 V0) slices_S4_S1_3) shapeCasts_S1_S_)) (shapeCast S5000 (extractStridedSlice S5000x1 ![0, 3] (V0 (Proc.devRef .tc main_v1_0)) slices_S5000x4_S5000x1_0_3) shapeCasts_S5000x1_S5000)) (maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000)) := by
  unfold val8
  simp only [trip_w7]
  after_results_entrywise [val7_main_while0b_v26, val7_main_while0b_v38, cast_eq]
set_option maxRecDepth 8192 in
theorem val8_main_while0b_cst_14 (V0 : Valuation τ sig (Elt F)) : val8 V0 (no_index (Proc.devRef .tc main_while0b_cst_14)) = constant S_ .f32 0x00000000#32 := by
  unfold val8
  simp only [trip_w7]
  after_results_entrywise [cast_eq]

/-- The device's buffer contents after the body's first 9 windows. -/
def val9 (V0 : Valuation τ sig (Elt F)) : Valuation τ sig (Elt F) := after trip_w8 (val8 V0)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v1_3 (V0 : Valuation τ sig (Elt F)) : val9 V0 (no_index (Proc.devRef .tc main_v1_3)) = V0 (Proc.devRef .tc main_v1_3) :=
  (val9_keep V0 main_v1_3 (by decide)).trans (val8_main_v1_3 V0)
theorem val9_main_v1_2 (V0 : Valuation τ sig (Elt F)) : val9 V0 (no_index (Proc.devRef .tc main_v1_2)) = V0 (Proc.devRef .tc main_v1_2) :=
  (val9_keep V0 main_v1_2 (by decide)).trans (val8_main_v1_2 V0)
theorem val9_main_v1_0 (V0 : Valuation τ sig (Elt F)) : val9 V0 (no_index (Proc.devRef .tc main_v1_0)) = V0 (Proc.devRef .tc main_v1_0) :=
  (val9_keep V0 main_v1_0 (by decide)).trans (val8_main_v1_0 V0)
theorem val9_main_v1_1 (V0 : Valuation τ sig (Elt F)) : val9 V0 (no_index (Proc.devRef .tc main_v1_1)) = V0 (Proc.devRef .tc main_v1_1) :=
  (val9_keep V0 main_v1_1 (by decide)).trans (val8_main_v1_1 V0)
theorem val9_main_while0b_v6 (V0 : Valuation τ sig (Elt F)) : val9 V0 (no_index (Proc.devRef .tc main_while0b_v6)) = res_main_while0b_v6 V0 :=
  (val9_keep V0 main_while0b_v6 (by decide)).trans (val8_main_while0b_v6 V0)
theorem val9_main_while0b_v14 (V0 : Valuation τ sig (Elt F)) : val9 V0 (no_index (Proc.devRef .tc main_while0b_v14)) = res_main_while0b_v14 V0 :=
  (val9_keep V0 main_while0b_v14 (by decide)).trans (val8_main_while0b_v14 V0)
theorem val9_main_while0b_v40 (V0 : Valuation τ sig (Elt F)) : val9 V0 (no_index (Proc.devRef .tc main_while0b_v40)) = maximumf (broadcastInDim S5000 ![] bcast_S_S5000 (id (constant S_ .f32 0x00000000#32))) (subf (minimumf (broadcastInDim S5000 ![] bcast_S_S5000 (shapeCast S_ (extractStridedSlice S1 ![2] (res_main_while0b_v14 V0) slices_S4_S1_2) shapeCasts_S1_S_)) (shapeCast S5000 (extractStridedSlice S5000x1 ![0, 2] (V0 (Proc.devRef .tc main_v1_0)) slices_S5000x4_S5000x1_0_2) shapeCasts_S5000x1_S5000)) (maximumf (broadcastInDim S5000 ![] bcast_S_S5000 (shapeCast S_ (extractStridedSlice S1 ![0] (res_main_while0b_v14 V0) slices_S4_S1_0) shapeCasts_S1_S_)) (shapeCast S5000 (extractStridedSlice S5000x1 ![0, 0] (V0 (Proc.devRef .tc main_v1_0)) slices_S5000x4_S5000x1_0_0) shapeCasts_S5000x1_S5000))) :=
  (val9_keep V0 main_while0b_v40 (by decide)).trans (val8_main_while0b_v40 V0)
set_option maxRecDepth 8192 in
theorem val9_main_while0b_v42 (V0 : Valuation τ sig (Elt F)) : val9 V0 (no_index (Proc.devRef .tc main_while0b_v42)) = maximumf (broadcastInDim S5000 ![] bcast_S_S5000 (id (constant S_ .f32 0x00000000#32))) (subf (minimumf (broadcastInDim S5000 ![] bcast_S_S5000 (shapeCast S_ (extractStridedSlice S1 ![3] (res_main_while0b_v14 V0) slices_S4_S1_3) shapeCasts_S1_S_)) (shapeCast S5000 (extractStridedSlice S5000x1 ![0, 3] (V0 (Proc.devRef .tc main_v1_0)) slices_S5000x4_S5000x1_0_3) shapeCasts_S5000x1_S5000)) (maximumf (broadcastInDim S5000 ![] bcast_S_S5000 (shapeCast S_ (extractStridedSlice S1 ![1] (res_main_while0b_v14 V0) slices_S4_S1_1) shapeCasts_S1_S_)) (shapeCast S5000 (extractStridedSlice S5000x1 ![0, 1] (V0 (Proc.devRef .tc main_v1_0)) slices_S5000x4_S5000x1_0_1) shapeCasts_S5000x1_S5000))) := by
  unfold val9
  simp only [trip_w8]
  after_results_entrywise [val8_main_while0b_v41, val8_main_while0b_cst_14, cast_eq]

/-- The device's buffer contents after the body's first 10 windows. -/
def val10 (V0 : Valuation τ sig (Elt F)) : Valuation τ sig (Elt F) := after trip_w9 (val9 V0)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v1_3 (V0 : Valuation τ sig (Elt F)) : val10 V0 (no_index (Proc.devRef .tc main_v1_3)) = V0 (Proc.devRef .tc main_v1_3) :=
  (val10_keep V0 main_v1_3 (by decide)).trans (val9_main_v1_3 V0)
theorem val10_main_v1_2 (V0 : Valuation τ sig (Elt F)) : val10 V0 (no_index (Proc.devRef .tc main_v1_2)) = V0 (Proc.devRef .tc main_v1_2) :=
  (val10_keep V0 main_v1_2 (by decide)).trans (val9_main_v1_2 V0)
theorem val10_main_v1_0 (V0 : Valuation τ sig (Elt F)) : val10 V0 (no_index (Proc.devRef .tc main_v1_0)) = V0 (Proc.devRef .tc main_v1_0) :=
  (val10_keep V0 main_v1_0 (by decide)).trans (val9_main_v1_0 V0)
theorem val10_main_v1_1 (V0 : Valuation τ sig (Elt F)) : val10 V0 (no_index (Proc.devRef .tc main_v1_1)) = V0 (Proc.devRef .tc main_v1_1) :=
  (val10_keep V0 main_v1_1 (by decide)).trans (val9_main_v1_1 V0)
theorem val10_main_while0b_v6 (V0 : Valuation τ sig (Elt F)) : val10 V0 (no_index (Proc.devRef .tc main_while0b_v6)) = res_main_while0b_v6 V0 :=
  (val10_keep V0 main_while0b_v6 (by decide)).trans (val9_main_while0b_v6 V0)
set_option maxRecDepth 8192 in
set_option maxHeartbeats 2000000 in
theorem val10_main_while0b_v43 (V0 : Valuation τ sig (Elt F)) : val10 V0 (no_index (Proc.devRef .tc main_while0b_v43)) = res_main_while0b_v43 V0 := by
  unfold val10
  simp only [trip_w9]
  after_results_entrywise [val9_main_while0b_v42, val9_main_while0b_v40, res_main_while0b_v43, cast_eq]
set_option maxRecDepth 8192 in
set_option maxHeartbeats 2000000 in
theorem val10_main_while0b_v65 (V0 : Valuation τ sig (Elt F)) : val10 V0 (no_index (Proc.devRef .tc main_while0b_v65)) = mulf (subf (shapeCast S5000 (extractStridedSlice S5000x1 ![0, 2] (V0 (Proc.devRef .tc main_v1_0)) slices_S5000x4_S5000x1_0_2) shapeCasts_S5000x1_S5000) (shapeCast S5000 (extractStridedSlice S5000x1 ![0, 0] (V0 (Proc.devRef .tc main_v1_0)) slices_S5000x4_S5000x1_0_0) shapeCasts_S5000x1_S5000)) (subf (shapeCast S5000 (extractStridedSlice S5000x1 ![0, 3] (V0 (Proc.devRef .tc main_v1_0)) slices_S5000x4_S5000x1_0_3) shapeCasts_S5000x1_S5000) (shapeCast S5000 (extractStridedSlice S5000x1 ![0, 1] (V0 (Proc.devRef .tc main_v1_0)) slices_S5000x4_S5000x1_0_1) shapeCasts_S5000x1_S5000)) := by
  unfold val10
  simp only [trip_w9]
  after_results_entrywise [val9_main_v1_0, cast_eq]
set_option maxRecDepth 8192 in
set_option maxHeartbeats 2000000 in
theorem val10_main_while0b_v66 (V0 : Valuation τ sig (Elt F)) : val10 V0 (no_index (Proc.devRef .tc main_while0b_v66)) = broadcastInDim S5000 ![] bcast_S_S5000 (mulf (subf (shapeCast S_ (extractStridedSlice S1 ![2] (res_main_while0b_v14 V0) slices_S4_S1_2) shapeCasts_S1_S_) (shapeCast S_ (extractStridedSlice S1 ![0] (res_main_while0b_v14 V0) slices_S4_S1_0) shapeCasts_S1_S_)) (subf (shapeCast S_ (extractStridedSlice S1 ![3] (res_main_while0b_v14 V0) slices_S4_S1_3) shapeCasts_S1_S_) (shapeCast S_ (extractStridedSlice S1 ![1] (res_main_while0b_v14 V0) slices_S4_S1_1) shapeCasts_S1_S_))) := by
  unfold val10
  simp only [trip_w9]
  after_results_entrywise [val9_main_while0b_v14, cast_eq]

/-- The device's buffer contents after the body's first 11 windows. -/
def val11 (V0 : Valuation τ sig (Elt F)) : Valuation τ sig (Elt F) := after trip_w10 (val10 V0)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v1_3 (V0 : Valuation τ sig (Elt F)) : val11 V0 (no_index (Proc.devRef .tc main_v1_3)) = V0 (Proc.devRef .tc main_v1_3) :=
  (val11_keep V0 main_v1_3 (by decide)).trans (val10_main_v1_3 V0)
theorem val11_main_v1_2 (V0 : Valuation τ sig (Elt F)) : val11 V0 (no_index (Proc.devRef .tc main_v1_2)) = V0 (Proc.devRef .tc main_v1_2) :=
  (val11_keep V0 main_v1_2 (by decide)).trans (val10_main_v1_2 V0)
theorem val11_main_v1_0 (V0 : Valuation τ sig (Elt F)) : val11 V0 (no_index (Proc.devRef .tc main_v1_0)) = V0 (Proc.devRef .tc main_v1_0) :=
  (val11_keep V0 main_v1_0 (by decide)).trans (val10_main_v1_0 V0)
theorem val11_main_v1_1 (V0 : Valuation τ sig (Elt F)) : val11 V0 (no_index (Proc.devRef .tc main_v1_1)) = V0 (Proc.devRef .tc main_v1_1) :=
  (val11_keep V0 main_v1_1 (by decide)).trans (val10_main_v1_1 V0)
theorem val11_main_while0b_v6 (V0 : Valuation τ sig (Elt F)) : val11 V0 (no_index (Proc.devRef .tc main_while0b_v6)) = res_main_while0b_v6 V0 :=
  (val11_keep V0 main_while0b_v6 (by decide)).trans (val10_main_while0b_v6 V0)
set_option maxRecDepth 8192 in
set_option maxHeartbeats 1300000 in
theorem val11_main_while0b_v76 (V0 : Valuation τ sig (Elt F)) : val11 V0 (no_index (Proc.devRef .tc main_while0b_v76)) = Host.exp (Host.divf (Host.negf (mulf (res_main_while0b_v71 V0) (res_main_while0b_v71 V0))) (broadcastInDim S5000 ![] bcast_S_S5000 (constant S_ .f32 0x3F000000#32))) := by
  unfold val11
  simp only [trip_w10]
  after_results_entrywise [val10_main_while0b_v65, val10_main_while0b_v66, val10_main_while0b_v43, res_main_while0b_v71, cast_eq]
set_option maxRecDepth 8192 in
set_option maxHeartbeats 1300000 in
theorem val11_main_while0b_cst_17 (V0 : Valuation τ sig (Elt F)) : val11 V0 (no_index (Proc.devRef .tc main_while0b_cst_17)) = constant S_ .f32 0x3F800000#32 := by
  unfold val11
  simp only [trip_w10]
  after_results_entrywise [cast_eq]

/-- The device's buffer contents after the body's first 12 windows. -/
def val12 (V0 : Valuation τ sig (Elt F)) : Valuation τ sig (Elt F) := after trip_w11 (val11 V0)
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v1_3 (V0 : Valuation τ sig (Elt F)) : val12 V0 (no_index (Proc.devRef .tc main_v1_3)) = V0 (Proc.devRef .tc main_v1_3) :=
  (val12_keep V0 main_v1_3 (by decide)).trans (val11_main_v1_3 V0)
theorem val12_main_v1_2 (V0 : Valuation τ sig (Elt F)) : val12 V0 (no_index (Proc.devRef .tc main_v1_2)) = V0 (Proc.devRef .tc main_v1_2) :=
  (val12_keep V0 main_v1_2 (by decide)).trans (val11_main_v1_2 V0)
theorem val12_main_v1_0 (V0 : Valuation τ sig (Elt F)) : val12 V0 (no_index (Proc.devRef .tc main_v1_0)) = V0 (Proc.devRef .tc main_v1_0) :=
  (val12_keep V0 main_v1_0 (by decide)).trans (val11_main_v1_0 V0)
theorem val12_main_v1_1 (V0 : Valuation τ sig (Elt F)) : val12 V0 (no_index (Proc.devRef .tc main_v1_1)) = V0 (Proc.devRef .tc main_v1_1) :=
  (val12_keep V0 main_v1_1 (by decide)).trans (val11_main_v1_1 V0)
theorem val12_main_while0b_v6 (V0 : Valuation τ sig (Elt F)) : val12 V0 (no_index (Proc.devRef .tc main_while0b_v6)) = res_main_while0b_v6 V0 :=
  (val12_keep V0 main_while0b_v6 (by decide)).trans (val11_main_while0b_v6 V0)
set_option maxRecDepth 8192 in
theorem val12_main_while0b_v77 (V0 : Valuation τ sig (Elt F)) : val12 V0 (no_index (Proc.devRef .tc main_while0b_v77)) = select (V0 (Proc.devRef .tc main_v1_3)) (broadcastInDim S5000 ![] bcast_S_S5000 (id (constant S_ .f32 0x3F800000#32))) (Host.exp (Host.divf (Host.negf (mulf (res_main_while0b_v71 V0) (res_main_while0b_v71 V0))) (broadcastInDim S5000 ![] bcast_S_S5000 (constant S_ .f32 0x3F000000#32)))) := by
  unfold val12
  simp only [trip_w11]
  after_results_entrywise [val11_main_while0b_v76, val11_main_while0b_cst_17, val11_main_v1_3, cast_eq]

/-- The device's buffer contents after the body's first 13 windows. -/
def val13 (V0 : Valuation τ sig (Elt F)) : Valuation τ sig (Elt F) := after trip_w12 (val12 V0)
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v1_3 (V0 : Valuation τ sig (Elt F)) : val13 V0 (no_index (Proc.devRef .tc main_v1_3)) = V0 (Proc.devRef .tc main_v1_3) :=
  (val13_keep V0 main_v1_3 (by decide)).trans (val12_main_v1_3 V0)
theorem val13_main_v1_2 (V0 : Valuation τ sig (Elt F)) : val13 V0 (no_index (Proc.devRef .tc main_v1_2)) = V0 (Proc.devRef .tc main_v1_2) :=
  (val13_keep V0 main_v1_2 (by decide)).trans (val12_main_v1_2 V0)
theorem val13_main_v1_0 (V0 : Valuation τ sig (Elt F)) : val13 V0 (no_index (Proc.devRef .tc main_v1_0)) = V0 (Proc.devRef .tc main_v1_0) :=
  (val13_keep V0 main_v1_0 (by decide)).trans (val12_main_v1_0 V0)
theorem val13_main_v1_1 (V0 : Valuation τ sig (Elt F)) : val13 V0 (no_index (Proc.devRef .tc main_v1_1)) = V0 (Proc.devRef .tc main_v1_1) :=
  (val13_keep V0 main_v1_1 (by decide)).trans (val12_main_v1_1 V0)
set_option maxRecDepth 8192 in
set_option maxHeartbeats 1700000 in
theorem val13_main_while0b_v83 (V0 : Valuation τ sig (Elt F)) : val13 V0 (no_index (Proc.devRef .tc main_while0b_v83)) = mulf (V0 (Proc.devRef .tc main_v1_2)) (Host.scatter scatter_S5000_S1_S__n_0_0_0 (fun _ b => b) (select (V0 (Proc.devRef .tc main_v1_3)) (broadcastInDim S5000 ![] bcast_S_S5000 (id (constant S_ .f32 0x3F800000#32))) (Host.exp (Host.divf (Host.negf (mulf (res_main_while0b_v71 V0) (res_main_while0b_v71 V0))) (broadcastInDim S5000 ![] bcast_S_S5000 (constant S_ .f32 0x3F000000#32))))) (broadcastInDim S1 ![] bcast_S_S1 (select (cmpi .slt (res_main_while0b_v6 V0) (constantI S_ 32 0#32)) (addi (res_main_while0b_v6 V0) (constantI S_ 32 5000#32)) (res_main_while0b_v6 V0))) (constant S_ .f32 0x3F800000#32)) := by
  unfold val13
  simp only [trip_w12]
  after_results_entrywise [val12_main_while0b_v6, val12_main_while0b_v77, val12_main_v1_2, cast_eq]
set_option maxRecDepth 8192 in
set_option maxHeartbeats 1700000 in
theorem val13_main_while0b_v88 (V0 : Valuation τ sig (Elt F)) : val13 V0 (no_index (Proc.devRef .tc main_while0b_v88)) = Host.scatter scatter_S5000_S1_S__n_0_0_0 (fun _ b => b) (V0 (Proc.devRef .tc main_v1_3)) (broadcastInDim S1 ![] bcast_S_S1 (select (cmpi .slt (res_main_while0b_v6 V0) (constantI S_ 32 0#32)) (addi (res_main_while0b_v6 V0) (constantI S_ 32 5000#32)) (res_main_while0b_v6 V0))) (constantI S_ 1 1#1) := by
  unfold val13
  simp only [trip_w12]
  after_results_entrywise [val12_main_while0b_v6, val12_main_v1_3, cast_eq]

set_option maxRecDepth 8192 in
/-- The body's stretches, from any contents: the trip's windows in order, then `while0Ops0_9`'s step. -/
theorem trip_windows (V0 : Valuation τ sig (Elt F)) : after while0Ops0_9 (after while0Ops0_8 (after while0Ops0_7 (after while0Ops0_6 (after while0Ops0_5 (after while0Ops0_4 (after while0Ops0_3 (after while0Ops0_2 (after while0Ops0_1 (after while0Ops0 (V0)))))))))) = after while0Ops0_9_step (val13 V0) := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, after_append]
  rfl

set_option maxRecDepth 8192 in
set_option maxHeartbeats 2000000 in
/-- `main_v1_0` after one trip's body, from any contents. -/
theorem trip_main_v1_0 (V0 : Valuation τ sig (Elt F)) : afterL bodyI V0 (no_index (Proc.devRef .tc main_v1_0)) = V0 (Proc.devRef .tc main_v1_0) := by
  simp only [bodyI, afterL_cons, afterL_nil, trip_windows]
  after_results
  all_goals (try simp only [val13_main_while0b_v83, val13_main_while0b_v88, val13_main_v1_0, val13_main_v1_1, val13_main_v1_2, val13_main_v1_3]) <;> rfl
set_option maxRecDepth 8192 in
set_option maxHeartbeats 2000000 in
/-- `main_v1_1` after one trip's body, from any contents. -/
theorem trip_main_v1_1 (V0 : Valuation τ sig (Elt F)) : afterL bodyI V0 (no_index (Proc.devRef .tc main_v1_1)) = id (addi (V0 (Proc.devRef .tc main_v1_1)) (constantI S_ 32 1#32)) := by
  simp only [bodyI, afterL_cons, afterL_nil, trip_windows]
  after_results
  all_goals (try simp only [val13_main_while0b_v83, val13_main_while0b_v88, val13_main_v1_0, val13_main_v1_1, val13_main_v1_2, val13_main_v1_3]) <;> rfl
set_option maxRecDepth 8192 in
set_option maxHeartbeats 2000000 in
/-- `main_v1_2` after one trip's body, from any contents. -/
theorem trip_main_v1_2 (V0 : Valuation τ sig (Elt F)) : afterL bodyI V0 (no_index (Proc.devRef .tc main_v1_2)) = id (mulf (V0 (Proc.devRef .tc main_v1_2)) (Host.scatter scatter_S5000_S1_S__n_0_0_0 (fun _ b => b) (select (V0 (Proc.devRef .tc main_v1_3)) (broadcastInDim S5000 ![] bcast_S_S5000 (id (constant S_ .f32 0x3F800000#32))) (Host.exp (Host.divf (Host.negf (mulf (res_main_while0b_v71 V0) (res_main_while0b_v71 V0))) (broadcastInDim S5000 ![] bcast_S_S5000 (constant S_ .f32 0x3F000000#32))))) (broadcastInDim S1 ![] bcast_S_S1 (select (cmpi .slt (res_main_while0b_v6 V0) (constantI S_ 32 0#32)) (addi (res_main_while0b_v6 V0) (constantI S_ 32 5000#32)) (res_main_while0b_v6 V0))) (constant S_ .f32 0x3F800000#32))) := by
  simp only [bodyI, afterL_cons, afterL_nil, trip_windows]
  after_results
  all_goals (try simp only [val13_main_while0b_v83, val13_main_while0b_v88, val13_main_v1_0, val13_main_v1_1, val13_main_v1_2, val13_main_v1_3]) <;> rfl
set_option maxRecDepth 8192 in
set_option maxHeartbeats 2000000 in
/-- `main_v1_3` after one trip's body, from any contents. -/
theorem trip_main_v1_3 (V0 : Valuation τ sig (Elt F)) : afterL bodyI V0 (no_index (Proc.devRef .tc main_v1_3)) = id (Host.scatter scatter_S5000_S1_S__n_0_0_0 (fun _ b => b) (V0 (Proc.devRef .tc main_v1_3)) (broadcastInDim S1 ![] bcast_S_S1 (select (cmpi .slt (res_main_while0b_v6 V0) (constantI S_ 32 0#32)) (addi (res_main_while0b_v6 V0) (constantI S_ 32 5000#32)) (res_main_while0b_v6 V0))) (constantI S_ 1 1#1)) := by
  simp only [bodyI, afterL_cons, afterL_nil, trip_windows]
  after_results
  all_goals (try simp only [val13_main_while0b_v83, val13_main_while0b_v88, val13_main_v1_0, val13_main_v1_1, val13_main_v1_2, val13_main_v1_3]) <;> rfl

/-- The loop's carried buffers. -/
abbrev carriedRefs : List (Ref sig .tc) := [main_v1_0, main_v1_1, main_v1_2, main_v1_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v6_congr {V0 V0' : Valuation τ sig (Elt F)} (h : Agree V0 V0') : res_main_while0b_v6 V0 = res_main_while0b_v6 V0' := by
  unfold res_main_while0b_v6
  rw [h main_v1_3 (by decide), h main_v1_2 (by decide)]
set_option maxRecDepth 8192 in
theorem res_main_while0b_v14_congr {V0 V0' : Valuation τ sig (Elt F)} (h : Agree V0 V0') : res_main_while0b_v14 V0 = res_main_while0b_v14 V0' := by
  unfold res_main_while0b_v14
  rw [res_main_while0b_v6_congr h, h main_v1_0 (by decide)]
set_option maxRecDepth 8192 in
theorem res_main_while0b_v43_congr {V0 V0' : Valuation τ sig (Elt F)} (h : Agree V0 V0') : res_main_while0b_v43 V0 = res_main_while0b_v43 V0' := by
  unfold res_main_while0b_v43
  rw [res_main_while0b_v14_congr h, h main_v1_0 (by decide)]
set_option maxRecDepth 8192 in
theorem res_main_while0b_v71_congr {V0 V0' : Valuation τ sig (Elt F)} (h : Agree V0 V0') : res_main_while0b_v71 V0 = res_main_while0b_v71 V0' := by
  unfold res_main_while0b_v71
  rw [res_main_while0b_v43_congr h, res_main_while0b_v14_congr h, h main_v1_0 (by decide)]

set_option maxRecDepth 8192 in
/-- `main_v1_1` after one trip, of the contents before it. -/
def step_main_v1_1 (V0 : Valuation τ sig (Elt F)) : (Proc.devRef .tc main_v1_1 : DevRef τ sig).ty.Contents (Elt F) :=
  id (addi (V0 (Proc.devRef .tc main_v1_1)) (constantI S_ 32 1#32))
set_option maxRecDepth 8192 in
theorem step_main_v1_1_congr {V0 V0' : Valuation τ sig (Elt F)} (h : Agree V0 V0') : step_main_v1_1 V0 = step_main_v1_1 V0' := by
  unfold step_main_v1_1
  rw [h main_v1_1 (by decide)]
set_option maxRecDepth 8192 in
/-- `main_v1_2` after one trip, of the contents before it. -/
def step_main_v1_2 (V0 : Valuation τ sig (Elt F)) : (Proc.devRef .tc main_v1_2 : DevRef τ sig).ty.Contents (Elt F) :=
  id (mulf (V0 (Proc.devRef .tc main_v1_2)) (Host.scatter scatter_S5000_S1_S__n_0_0_0 (fun _ b => b) (select (V0 (Proc.devRef .tc main_v1_3)) (broadcastInDim S5000 ![] bcast_S_S5000 (id (constant S_ .f32 0x3F800000#32))) (Host.exp (Host.divf (Host.negf (mulf (res_main_while0b_v71 V0) (res_main_while0b_v71 V0))) (broadcastInDim S5000 ![] bcast_S_S5000 (constant S_ .f32 0x3F000000#32))))) (broadcastInDim S1 ![] bcast_S_S1 (select (cmpi .slt (res_main_while0b_v6 V0) (constantI S_ 32 0#32)) (addi (res_main_while0b_v6 V0) (constantI S_ 32 5000#32)) (res_main_while0b_v6 V0))) (constant S_ .f32 0x3F800000#32)))
set_option maxRecDepth 8192 in
theorem step_main_v1_2_congr {V0 V0' : Valuation τ sig (Elt F)} (h : Agree V0 V0') : step_main_v1_2 V0 = step_main_v1_2 V0' := by
  unfold step_main_v1_2
  rw [res_main_while0b_v71_congr h, res_main_while0b_v6_congr h, h main_v1_2 (by decide), h main_v1_3 (by decide)]
set_option maxRecDepth 8192 in
/-- `main_v1_3` after one trip, of the contents before it. -/
def step_main_v1_3 (V0 : Valuation τ sig (Elt F)) : (Proc.devRef .tc main_v1_3 : DevRef τ sig).ty.Contents (Elt F) :=
  id (Host.scatter scatter_S5000_S1_S__n_0_0_0 (fun _ b => b) (V0 (Proc.devRef .tc main_v1_3)) (broadcastInDim S1 ![] bcast_S_S1 (select (cmpi .slt (res_main_while0b_v6 V0) (constantI S_ 32 0#32)) (addi (res_main_while0b_v6 V0) (constantI S_ 32 5000#32)) (res_main_while0b_v6 V0))) (constantI S_ 1 1#1))
set_option maxRecDepth 8192 in
theorem step_main_v1_3_congr {V0 V0' : Valuation τ sig (Elt F)} (h : Agree V0 V0') : step_main_v1_3 V0 = step_main_v1_3 V0' := by
  unfold step_main_v1_3
  rw [res_main_while0b_v6_congr h, h main_v1_3 (by decide)]

/-- ONE TRIP on the carried buffers: the buffers the body writes step, everything else is as it was. -/
def STEP (V0 : Valuation τ sig (Elt F)) : Valuation τ sig (Elt F) :=
  Function.update (Function.update (Function.update (V0) (Proc.devRef .tc main_v1_1) (step_main_v1_1 V0)) (Proc.devRef .tc main_v1_2) (step_main_v1_2 V0)) (Proc.devRef .tc main_v1_3) (step_main_v1_3 V0)

theorem STEP_main_v1_0 (V0 : Valuation τ sig (Elt F)) : STEP V0 (Proc.devRef .tc main_v1_0) = V0 (Proc.devRef .tc main_v1_0) := by
  unfold STEP; rw [Function.update_of_ne (devRef_ne_of_ne (by decide))]; rw [Function.update_of_ne (devRef_ne_of_ne (by decide))]; rw [Function.update_of_ne (devRef_ne_of_ne (by decide))]
theorem STEP_main_v1_1 (V0 : Valuation τ sig (Elt F)) : STEP V0 (Proc.devRef .tc main_v1_1) = step_main_v1_1 V0 := by
  unfold STEP; rw [Function.update_of_ne (devRef_ne_of_ne (by decide))]; rw [Function.update_of_ne (devRef_ne_of_ne (by decide))]; rw [Function.update_self]
theorem STEP_main_v1_2 (V0 : Valuation τ sig (Elt F)) : STEP V0 (Proc.devRef .tc main_v1_2) = step_main_v1_2 V0 := by
  unfold STEP; rw [Function.update_of_ne (devRef_ne_of_ne (by decide))]; rw [Function.update_self]
theorem STEP_main_v1_3 (V0 : Valuation τ sig (Elt F)) : STEP V0 (Proc.devRef .tc main_v1_3) = step_main_v1_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v1_0 (after condOps X)).trans ((hc main_v1_0 (by decide)).trans (STEP_main_v1_0 X).symm)
  · exact (trip_main_v1_1 (after condOps X)).trans ((step_main_v1_1_congr hc).trans (STEP_main_v1_1 X).symm)
  · exact (trip_main_v1_2 (after condOps X)).trans ((step_main_v1_2_congr hc).trans (STEP_main_v1_2 X).symm)
  · exact (trip_main_v1_3 (after condOps X)).trans ((step_main_v1_3_congr hc).trans (STEP_main_v1_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v1_0, STEP_main_v1_0]; exact h main_v1_0 (by decide)
  · rw [STEP_main_v1_1, STEP_main_v1_1]; exact step_main_v1_1_congr h
  · rw [STEP_main_v1_2, STEP_main_v1_2]; exact step_main_v1_2_congr h
  · rw [STEP_main_v1_3, STEP_main_v1_3]; exact step_main_v1_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_2, keep_main_arg1_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg1 c k
set_option maxRecDepth 8192 in
/-- `main_v4`, which the operations after the loop make, of the contents they start from. -/
def out_main_v4 (V0 : Valuation τ sig (Elt F)) : (Proc.devRef .tc main_v4 : DevRef τ sig).ty.Contents (Elt F) :=
  select (cmpf .ogt (V0 (Proc.devRef .tc main_v1_2)) (broadcastInDim S5000 ![] bcast_S_S5000 (constant S_ .f32 0x3D4CCCCD#32))) (V0 (Proc.devRef .tc main_v1_2)) (broadcastInDim S5000 ![] bcast_S_S5000 (id (constant S_ .f32 0x00000000#32)))
set_option maxRecDepth 8192 in
set_option maxHeartbeats 2000000 in
theorem post_main_v4 (V0 : Valuation τ sig (Elt F)) : afterL postI V0 (no_index (Proc.devRef .tc main_v4)) = out_main_v4 V0 := by
  unfold out_main_v4
  simp only [postI, afterL_cons, afterL_nil, hostOps0_1, hostOps0_2]
  after_results_entrywise []
set_option maxRecDepth 8192 in
theorem out_main_v4_congr {V0 V0' : Valuation τ sig (Elt F)} (h : Agree V0 V0') : out_main_v4 V0 = out_main_v4 V0' := by
  unfold out_main_v4
  rw [h main_v1_2 (by decide)]
/-- THE RUN: on every device, for any float values, from any memory with zero counters, every weakly fair execution
    of @main terminates with each result at its component of `STEP` iterated 5000 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v4) = out_main_v4 (STEP^[5000] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4 rfl).trans ((post_main_v4 _).trans (out_main_v4_congr (fun j hj => (cond_keeps _ j hj).trans (atK_agree m c 5000 j hj)))),
      (h c main_arg0 rfl).trans ((post_keeps_main_arg0 _).trans ((keep_main_arg0_condOps _).trans (atK_main_arg0 m c 5000))),
      (h c main_arg1 rfl).trans ((post_keeps_main_arg1 _).trans ((keep_main_arg1_condOps _).trans (atK_main_arg1 m c 5000)))⟩) (run_fold m ρ)

end Cert.RefRun

end
-- ==== Proof.Math.Argmax.lean ====
/-
  The reference's arg-max at the extended reals: folded over any list of (value, index) pairs, its body returns one of the
  pairs, whose value no pair exceeds and whose index is the least among the pairs of that value. So over the masked scores
  it returns the index of the first largest one.
-/
module

public import proofs.«01_k».proof.Proof.Ref.Step
public import Idealize.ShloMosaic.Lib.IdealHost
public import Idealize.ShloMosaic.Lib.DynamicIndex
public import Idealize.ShloMosaic.PureOps.Reduce

@[expose] public section

noncomputable section

namespace Cert.Math

open Cert.ReferenceIdeal Cert.ReferenceIdeal.Gen
open Idealize.ShloMosaic Idealize.ShloMosaic.ValueIdx

/-- `p` is at least as good a choice as `q`: a larger value, or the same value at no larger an index. -/
def Beats (p q : Ideal .f32 × BitVec 32) : Prop := (q.1 : EReal) < p.1 ∨ ((p.1 : EReal) = q.1 ∧ p.2.toInt ≤ q.2.toInt)

theorem Beats.refl (p : Ideal .f32 × BitVec 32) : Beats p p := Or.inr ⟨rfl, le_refl _⟩

theorem Beats.trans {p q r : Ideal .f32 × BitVec 32} (h : Beats p q) (h' : Beats q r) : Beats p r := by
  rcases h with h | ⟨h, i⟩ <;> rcases h' with h' | ⟨h', i'⟩
  · exact Or.inl (h'.trans h)
  · exact Or.inl (h' ▸ h)
  · exact Or.inl (h ▸ h')
  · exact Or.inr ⟨h.trans h', i.trans i'⟩

/-- The reducer's result on two pairs is the better of them. -/
theorem reducer_cases (a b : Ideal .f32 × BitVec 32) :
    (reducer_argmax_f32_i32 (F := Ideal) a b = a ∧ Beats a b) ∨ (reducer_argmax_f32_i32 (F := Ideal) a b = b ∧ Beats b a) := by
  obtain ⟨x, i⟩ := a
  obtain ⟨y, j⟩ := b
  have hr : reducer_argmax_f32_i32 (F := Ideal) (x, i) (y, j)
      = (Scalar.select (IntOp.ori (Ideal.cmp .ogt x y) (Ideal.cmp .une x x)) x y,
         Scalar.select (IntOp.ori (IntOp.ori (Ideal.cmp .ogt x y) (Ideal.cmp .une x x)) (IntOp.andi (Ideal.cmp .oeq x y) (IntOp.cmpi .slt i j))) i j) := rfl
  rw [hr]
  have hu : Ideal.cmp .une x x = 0#1 := by simp [Ideal.cmp]
  rw [hu]
  rcases lt_trichotomy (x : EReal) y with h | h | h
  · have h1 : Ideal.cmp .ogt x y = 0#1 := by
      show BitVec.ofBool (decide ((y : EReal) < x)) = _
      rw [decide_eq_false (not_lt.mpr h.le)]; rfl
    have h2 : Ideal.cmp .oeq x y = 0#1 := by simp [Ideal.cmp, h.ne]
    rw [h1, h2]
    right
    refine ⟨?_, Or.inl h⟩
    have hz : IntOp.andi 0#1 (IntOp.cmpi .slt i j) = 0#1 := by simp [IntOp.andi]
    rw [hz]; rfl
  · have h1 : Ideal.cmp .ogt x y = 0#1 := by simp [Ideal.cmp, h]
    have h2 : Ideal.cmp .oeq x y = 1#1 := by simp [Ideal.cmp, h]
    rw [h1, h2]
    by_cases hs : i.slt j
    · left
      have hc : IntOp.cmpi .slt i j = 1#1 := by
        show BitVec.ofBool (i.slt j) = _
        rw [hs]; rfl
      rw [hc]
      refine ⟨Prod.ext h.symm rfl, Or.inr ⟨h, ?_⟩⟩
      simp [BitVec.slt] at hs; exact hs.le
    · right
      have hc : IntOp.cmpi .slt i j = 0#1 := by
        show BitVec.ofBool (i.slt j) = _
        rw [Bool.eq_false_iff.mpr hs]; rfl
      rw [hc]
      refine ⟨rfl, Or.inr ⟨h.symm, ?_⟩⟩
      simp [BitVec.slt] at hs; exact hs
  · have h1 : Ideal.cmp .ogt x y = 1#1 := by simp [Ideal.cmp, h]
    have h2 : Ideal.cmp .oeq x y = 0#1 := by simp [Ideal.cmp, h.ne']
    rw [h1, h2]
    left
    refine ⟨?_, Or.inl h⟩
    have hz : IntOp.andi 0#1 (IntOp.cmpi .slt i j) = 0#1 := by simp [IntOp.andi]
    rw [hz]; rfl

/-- The fold returns one of the pairs, and it is as good as every one of them. -/
theorem foldl_best : ∀ (L : List (Ideal .f32 × BitVec 32)) (a : Ideal .f32 × BitVec 32),
    (L.foldl (reducer_argmax_f32_i32 (F := Ideal)) a = a ∨ L.foldl (reducer_argmax_f32_i32 (F := Ideal)) a ∈ L)
      ∧ Beats (L.foldl (reducer_argmax_f32_i32 (F := Ideal)) a) a ∧ ∀ p ∈ L, Beats (L.foldl (reducer_argmax_f32_i32 (F := Ideal)) a) p
  | [], a => ⟨Or.inl rfl, Beats.refl a, fun _ h => nomatch h⟩
  | b :: L, a => by
    rw [List.foldl_cons]
    obtain ⟨h1, h2, h3⟩ := foldl_best L (reducer_argmax_f32_i32 (F := Ideal) a b)
    rcases reducer_cases a b with ⟨e, hb⟩ | ⟨e, hb⟩
    · rw [e] at h1 h2 h3 ⊢
      refine ⟨h1.imp id (List.mem_cons_of_mem _), h2, fun p hp => ?_⟩
      rcases List.mem_cons.mp hp with rfl | hp
      · exact h2.trans hb
      · exact h3 p hp
    · rw [e] at h1 h2 h3 ⊢
      refine ⟨Or.inr ?_, h2.trans hb, fun p hp => ?_⟩
      · rcases h1 with h1 | h1
        · rw [h1]; exact List.mem_cons_self
        · exact List.mem_cons_of_mem _ h1
      · rcases List.mem_cons.mp hp with rfl | hp
        · exact h2
        · exact h3 p hp

/-- Minus infinity's word, in a one-entry constant. -/
theorem negInf_const (i : S_.Idx) : (constant S_ .f32 0xFF800000#32 : FVec Ideal S_ .f32) i = (⊥ : EReal) := by
  show Ideal.ofBits .f32 0xFF800000#32 = ⊥
  simp [Ideal.ofBits, Ideal.ieee]

/-- The arg-max of a vector whose largest value is above minus infinity: the first index of it. -/
theorem argmax_apply (f : FVec Ideal S5000 .f32) (M : Fin 5000) (hM : ∀ i : Fin 5000, (f (ix1 i) : EReal) ≤ f (ix1 M))
    (hF : ∀ i : Fin 5000, (f (ix1 i) : EReal) = f (ix1 M) → M ≤ i) (hbot : (⊥ : EReal) < f (ix1 M)) (j : S_.Idx) :
    (Host.argReduce (reducer_argmax_f32_i32 (F := Ideal)) f (iotaInDim S5000 32 0) (constant S_ .f32 0xFF800000#32) (constantI S_ 32 0#32)
      reducesTo_S5000_S_d0 h_S_ j).2 = BitVec.ofNat 32 M.val := by
  rw [Ideal.argReduce_eq_reduce2, Host.reduce2_eq_foldl_fiber]
  have hmem : ∀ p, p ∈ Host.argReduceFiber f (iotaInDim S5000 32 0) reducesTo_S5000_S_d0 j ↔ ∃ i : Fin 5000, p = (f (ix1 i), BitVec.ofNat 32 i.val) := by
    intro p
    unfold Host.argReduceFiber
    rw [List.mem_map]
    constructor
    · rintro ⟨n, _, rfl⟩
      refine ⟨(S5000.rowMajor.symm n) 0, ?_⟩
      have e := eq_ix1 (n := 5000) (S5000.rowMajor.symm n)
      exact Prod.ext (congrArg f e) rfl
    · rintro ⟨i, rfl⟩
      refine ⟨S5000.rowMajor (ix1 i), ?_, ?_⟩
      · rw [List.mem_filter]
        exact ⟨List.mem_finRange _, decide_eq_true (funext fun a => a.elim0)⟩
      · rw [Equiv.symm_apply_apply]; rfl
  obtain ⟨h1, _, h3⟩ := foldl_best (Host.argReduceFiber f (iotaInDim S5000 32 0) reducesTo_S5000_S_d0 j)
    ((constant S_ .f32 0xFF800000#32 : FVec Ideal S_ .f32) (Shape.Idx.first h_S_), constantI S_ 32 0#32 (Shape.Idx.first h_S_))
  have hb := h3 _ ((hmem _).mpr ⟨M, rfl⟩)
  have hi : ∀ i : Fin 5000, (BitVec.ofNat 32 i.val).toInt = i.val := fun i => toInt_ofNat_of_lt (by have := i.isLt; omega)
  rcases h1 with h1 | h1
  · rw [h1] at hb
    have hc : (constant S_ .f32 0xFF800000#32 : FVec Ideal S_ .f32) (Shape.Idx.first h_S_) = (⊥ : EReal) := negInf_const _
    rcases hb with hb | ⟨hb, _⟩
    · exact absurd hb (by rw [hc]; exact not_lt_bot)
    · rw [hc] at hb
      exact absurd hb hbot.ne
  · obtain ⟨i, e⟩ := (hmem _).mp h1
    rw [e] at hb ⊢
    rcases hb with hb | ⟨hb, hle⟩
    · exact absurd (hM i) (not_le.mpr hb)
    · have h4 : M ≤ i := hF i hb
      have h5 : ((BitVec.ofNat 32 i.val).toInt) ≤ (BitVec.ofNat 32 M.val).toInt := hle
      rw [hi, hi] at h5
      have : i = M := le_antisymm (by exact_mod_cast h5) h4
      rw [this]

end Cert.Math

end
-- ==== Proof.Math.RefTrip.lean ====
/-
  One step of the reference read entry by entry, at the extended reals. Whatever box the step chooses, it multiplies a
  processed score by one and any other score by one or by a decay (`step_any`), and leaves a processed box processed. When
  `M` is the first box of the largest masked score it chooses `M`: the score at `M` is kept and `M` becomes processed, and
  every other unprocessed score is decayed by its box's overlap with box `M` (`step_at`).
-/
module

public import proofs.«01_k».proof.Proof.Math.Argmax
public import proofs.«01_k».proof.Proof.Math.Decay
public import Idealize.ShloMosaic.Lib.Routing.OpsOne
public import Idealize.ShloMosaic.Lib.Pipeline.Value

@[expose] public section

noncomputable section

namespace Cert.Math

open Cert.ReferenceIdeal Cert.ReferenceIdeal.Gen Cert.RefRun
open Idealize.ShloMosaic Idealize.ShloMosaic.TcCoe Idealize.ShloMosaic.ValueIdx
open Idealize.ShloMosaic.StableHlo

/-! ## Layout readings -/

/-- Column `k` of the boxes, at a box. -/
theorem col_apply {α : Type} (b : S5000x4.Idx → α) (k : ℕ) (hk : k < 4) (hs : S5000x4.Slices ![0, k] S5000x1)
    (hc : S5000x1.ShapeCasts S5000) (e : Fin 5000) :
    shapeCast S5000 (extractStridedSlice S5000x1 ![0, k] b hs) hc (ix1 e) = b (ix2 e ⟨k, hk⟩) := by
  rw [shapeCast_apply _ _ _ (ix2 (n0 := 5000) (n1 := 1) e 0) (by
    rw [Shape.rowMajor_val_two, Shape.rowMajor_val_one]
    show e.val * 1 + 0 = e.val
    omega)]
  refine extractStridedSlice_apply _ _ _ _ _ fun a => ?_
  fin_cases a
  · show e.val = 0 + e.val
    omega
  · show k = k + 0
    rfl

/-- Entry `k` of a box. -/
theorem entry_apply {α : Type} (x : S4.Idx → α) (k : ℕ) (hk : k < 4) (hs : S4.Slices ![k] S1) (hc : S1.ShapeCasts S_) (j : S_.Idx) :
    shapeCast S_ (extractStridedSlice S1 ![k] x hs) hc j = x (ix1 ⟨k, hk⟩) := by
  rw [shapeCast_apply _ _ _ (ix1 (n := 1) 0) (by
    have h1 : (S1.rowMajor (ix1 (n := 1) 0)).val < 1 := lt_of_lt_of_eq (Fin.isLt _) (by decide : S1.numel = 1)
    have h2 : (S_.rowMajor j).val < 1 := lt_of_lt_of_eq (Fin.isLt _) (by decide : S_.numel = 1)
    exact (Nat.lt_one_iff.mp h1).trans (Nat.lt_one_iff.mp h2).symm)]
  refine extractStridedSlice_apply _ _ _ _ _ fun a => ?_
  fin_cases a
  show k = k + 0
  rfl

/-- A one-row block of the boxes at row `M`, as a box. -/
theorem row_apply {α : Type} (b : S5000x4.Idx → α) (M : Fin 5000) (start : Fin 2 → Int) (h0 : start 0 = (M.val : Int)) (h1 : start 1 = 0)
    (k : Fin 4) :
    shapeCast S4 (Host.dynamicSlice S1x4 b start sliceFits_S5000x4_S1x4) shapeCasts_S1x4_S4 (ix1 k) = b (ix2 M k) := by
  rw [shapeCast_apply _ _ _ (ix2 (n0 := 1) (n1 := 4) 0 k) (by
    rw [Shape.rowMajor_val_two, Shape.rowMajor_val_one]
    show 0 * 4 + k.val = k.val
    omega)]
  have hoff : S5000x4.Slices ![M.val, 0] S1x4 := ⟨rfl, fun a => by
    have hM := M.isLt
    fin_cases a
    · show M.val + 1 ≤ 5000
      omega
    · show 0 + 4 ≤ 4
      omega⟩
  rw [Host.dynamicSlice_eq_extractStridedSlice S1x4 b start ![M.val, 0] sliceFits_S5000x4_S1x4 hoff (fun a => by
    fin_cases a
    · exact h0
    · exact h1)]
  refine extractStridedSlice_apply _ _ _ _ _ fun a => ?_
  fin_cases a
  · show M.val = M.val + 0
    rfl
  · show k.val = 0 + k.val
    omega

/-- The same, the block's start given as two index words. -/
theorem row_apply_words {α : Type} (b : S5000x4.Idx → α) (M : Fin 5000) (x y : S_.Idx → BitVec 32) (j : S_.Idx)
    (h0 : (x j).toInt = (M.val : Int)) (h1 : (y j).toInt = 0) (k : Fin 4) :
    shapeCast S4 (Host.dynamicSlice S1x4 b (fun k => ((![x, y] : Fin 2 → S_.Idx → BitVec 32) k j).toInt) sliceFits_S5000x4_S1x4)
      shapeCasts_S1x4_S4 (ix1 k) = b (ix2 M k) :=
  row_apply b M _ h0 h1 k

/-- A scatter of one update leaves at an entry the operand's or the update's. -/
theorem scatter_or {α : Type} (x : S5000.Idx → α) (idx : IVec S1 32) (upd : S_.Idx → α) (i : S5000.Idx) :
    Host.scatter scatter_S5000_S1_S__n_0_0_0 (fun _ b => b) x idx upd i = x i
      ∨ Host.scatter scatter_S5000_S1_S__n_0_0_0 (fun _ b => b) x idx upd i = upd ix0 := by
  by_cases h : ∃ k, scatter_S5000_S1_S__n_0_0_0.resultIdx? k idx = some i
  · obtain ⟨k, hk⟩ := h
    exact Or.inr (Routing.scatter_set_hit _ x idx upd i _ (fun j _ => congrArg upd (eq_ix0 j)) k hk)
  · exact Or.inl (Routing.scatter_set_miss _ x idx upd i fun k hk => h ⟨k, hk⟩)

/-- A scatter of one update at the index word of `M`: the update at `M`, the operand elsewhere. -/
theorem scatter_at {α : Type} (x : S5000.Idx → α) (idx : IVec S1 32) (upd : S_.Idx → α) (M : Fin 5000)
    (hidx : (idx (ix1 0)).toInt = (M.val : Int)) (e : Fin 5000) :
    Host.scatter scatter_S5000_S1_S__n_0_0_0 (fun _ b => b) x idx upd (ix1 e) = if e = M then upd ix0 else x (ix1 e) := by
  have hl := Routing.lands_one scatter_S5000_S1_S__n_0_0_0 rfl rfl idx M hidx e
  by_cases h : e = M
  · rw [if_pos h]
    exact Routing.scatter_set_hit _ x idx upd _ _ (fun j _ => congrArg upd (eq_ix0 j)) ix0 (hl.2 h)
  · rw [if_neg h]
    exact Routing.scatter_set_miss _ x idx upd _ fun j hj => h (hl.1 (by rw [← eq_ix0 j]; exact hj))

/-! ## The carried buffers -/

/-- The boxes, the scores and the processed flags a step starts from. -/
abbrev bOf (V : Valuation τ sig (Elt Ideal)) : FVec Ideal S5000x4 .f32 := V (Proc.devRef .tc main_v1_0)
abbrev sOf (V : Valuation τ sig (Elt Ideal)) : FVec Ideal S5000 .f32 := V (Proc.devRef .tc main_v1_2)
abbrev pOf (V : Valuation τ sig (Elt Ideal)) : IVec S5000 1 := V (Proc.devRef .tc main_v1_3)

theorem one_const : Ideal.ofBits .f32 0x3F800000#32 = 1 := Ideal.ofBits_one_f32

/-- The index a step scatters at: the arg-max, wrapped when negative. -/
def wrap (v : IVec S_ 32) : IVec S_ 32 := select (cmpi .slt v (constantI S_ 32 0#32)) (addi v (constantI S_ 32 5000#32)) v

/-- The factors of a step, before the chosen box's is set to one. -/
def factors (p : IVec S5000 1) (q : FVec Ideal S5000 .f32) : FVec Ideal S5000 .f32 :=
  select p (broadcastInDim S5000 ![] bcast_S_S5000 (constant S_ .f32 0x3F800000#32))
    (Host.exp (Host.divf (Host.negf (mulf q q)) (broadcastInDim S5000 ![] bcast_S_S5000 (constant S_ .f32 0x3F000000#32))))

theorem factors_apply (p : IVec S5000 1) (q : FVec Ideal S5000 .f32) (i : S5000.Idx) :
    (factors p q i : EReal) = if p i = 1#1 then 1 else decay (q i) := by
  unfold factors
  by_cases h : p i = 1#1
  · rw [if_pos h, select_apply, h, select_one]
    exact one_const
  · rw [if_neg h, select_apply, eq_zero_of_ne_one h, select_zero]
    rfl

/-- The scores after a step. -/
theorem scores_eq (V : Valuation τ sig (Elt Ideal)) :
    (step_main_v1_2 V : FVec Ideal S5000 .f32)
      = mulf (sOf V) (Host.scatter scatter_S5000_S1_S__n_0_0_0 (fun _ b => b) (factors (pOf V) (res_main_while0b_v71 V))
          (broadcastInDim S1 ![] bcast_S_S1 (wrap (res_main_while0b_v6 V))) (constant S_ .f32 0x3F800000#32)) := by
  unfold step_main_v1_2 factors wrap
  simp only [id_eq]

/-- The processed flags after a step. -/
theorem flags_eq (V : Valuation τ sig (Elt Ideal)) :
    (step_main_v1_3 V : IVec S5000 1)
      = Host.scatter scatter_S5000_S1_S__n_0_0_0 (fun _ b => b) (pOf V)
          (broadcastInDim S1 ![] bcast_S_S1 (wrap (res_main_while0b_v6 V))) (constantI S_ 1 1#1) := by
  unfold step_main_v1_3 wrap
  simp only [id_eq]
  rfl

/-- A step, whatever box it chooses: the factor of every score. -/
theorem step_any (V : Valuation τ sig (Elt Ideal)) (i : S5000.Idx) :
    ∃ d : EReal, ((step_main_v1_2 V : FVec Ideal S5000 .f32) i : EReal) = sOf V i * d ∧ (d = 1 ∨ pOf V i ≠ 1#1 ∧ ∃ q, d = decay q) := by
  rw [scores_eq]
  refine ⟨_, rfl, ?_⟩
  rcases scatter_or (factors (pOf V) (res_main_while0b_v71 V)) (broadcastInDim S1 ![] bcast_S_S1 (wrap (res_main_while0b_v6 V)))
    (constant (F := Ideal) S_ .f32 0x3F800000#32) i with h | h
  · by_cases hp : pOf V i = 1#1
    · exact Or.inl (h.trans ((factors_apply (pOf V) _ i).trans (if_pos hp)))
    · exact Or.inr ⟨hp, _, h.trans ((factors_apply (pOf V) _ i).trans (if_neg hp))⟩
  · exact Or.inl (h.trans one_const)

/-- A processed box stays processed. -/
theorem step_keeps (V : Valuation τ sig (Elt Ideal)) (i : S5000.Idx) (h : pOf V i = 1#1) : (step_main_v1_3 V : IVec S5000 1) i = 1#1 := by
  rw [flags_eq]
  rcases scatter_or (pOf V) (broadcastInDim S1 ![] bcast_S_S1 (wrap (res_main_while0b_v6 V))) (constantI S_ 1 1#1) i with e | e
  · exact e.trans h
  · exact e

/-- The scores the step takes the arg-max of: minus infinity at the processed boxes. -/
def masked (p : IVec S5000 1) (s : FVec Ideal S5000 .f32) : FVec Ideal S5000 .f32 :=
  select p (broadcastInDim S5000 ![] bcast_S_S5000 (constant S_ .f32 0xFF800000#32)) s

theorem masked_apply (p : IVec S5000 1) (s : FVec Ideal S5000 .f32) (i : S5000.Idx) :
    (masked p s i : EReal) = if p i = 1#1 then ⊥ else s i := by
  unfold masked
  by_cases h : p i = 1#1
  · rw [if_pos h, select_apply, h, select_one]; exact negInf_const ix0
  · rw [if_neg h, select_apply, eq_zero_of_ne_one h, select_zero]

/-- An index that reads as a natural number is not wrapped. -/
theorem wrap_of_nonneg (v : IVec S_ 32) (j : S_.Idx) {n : ℕ} (h : (v j).toInt = (n : Int)) : (wrap v j).toInt = (n : Int) := by
  have hs := select_slt_zero_of_nonneg v (addi v (constantI S_ 32 5000#32)) v j (by rw [h]; omega)
  exact (congrArg BitVec.toInt hs).trans h

/-- The intersection area, entry by entry, of the corners of the chosen box and the corners of every box. -/
theorem inter_read (a0 a1 a2 a3 : FVec Ideal S_ .f32) (b0 b1 b2 b3 : FVec Ideal S5000 .f32) (i : S5000.Idx) :
    (mulf (maximumf (broadcastInDim S5000 ![] bcast_S_S5000 (constant S_ .f32 0x00000000#32))
        (subf (minimumf (broadcastInDim S5000 ![] bcast_S_S5000 a2) b2) (maximumf (broadcastInDim S5000 ![] bcast_S_S5000 a0) b0)))
      (maximumf (broadcastInDim S5000 ![] bcast_S_S5000 (constant S_ .f32 0x00000000#32))
        (subf (minimumf (broadcastInDim S5000 ![] bcast_S_S5000 a3) b3) (maximumf (broadcastInDim S5000 ![] bcast_S_S5000 a1) b1))) i : EReal)
      = inter (a0 ix0) (a1 ix0) (a2 ix0) (a3 ix0) (b0 i) (b1 i) (b2 i) (b3 i) := by
  have hz : (broadcastInDim S5000 ![] bcast_S_S5000 (constant (F := Ideal) S_ .f32 0x00000000#32) i : EReal) = 0 :=
    Ideal.ofBits_zero_f32
  have hr : ∀ a : FVec Ideal S_ .f32, broadcastInDim S5000 ![] bcast_S_S5000 a i = a ix0 :=
    fun a => broadcastInDim_scalar_apply bcast_S_S5000 a i
  simp only [mulf_apply, maximumf_apply, subf_apply, minimumf_apply, hr]
  exact congrArg₂ (fun y z : EReal => max y _ * max z _) hz hz

/-- The overlap, entry by entry, of the corners and the intersection area. -/
theorem iou_read (a0 a1 a2 a3 : FVec Ideal S_ .f32) (b0 b1 b2 b3 t : FVec Ideal S5000 .f32) (i : S5000.Idx) :
    (Host.divf t (addf (subf (addf (broadcastInDim S5000 ![] bcast_S_S5000 (mulf (subf a2 a0) (subf a3 a1)))
        (mulf (subf b2 b0) (subf b3 b1))) t) (broadcastInDim S5000 ![] bcast_S_S5000 (constant S_ .f32 0x358637BD#32))) i : EReal)
      = Ideal.div (t i) ((((a2 ix0 : EReal) - a0 ix0) * ((a3 ix0 : EReal) - a1 ix0) + ((b2 i : EReal) - b0 i) * ((b3 i : EReal) - b1 i)) - t i + eps) := by
  have hr : ∀ a : FVec Ideal S_ .f32, broadcastInDim S5000 ![] bcast_S_S5000 a i = a ix0 :=
    fun a => broadcastInDim_scalar_apply bcast_S_S5000 a i
  simp only [hostDivf_apply, mulf_apply, addf_apply, subf_apply, hr]
  rfl

/-! ## The step at the first largest masked score -/

/-- `M` is the first box of the largest masked score, which is above minus infinity. -/
structure Chosen (V : Valuation τ sig (Elt Ideal)) (M : Fin 5000) : Prop where
  fresh : pOf V (ix1 M) ≠ 1#1
  pos : (⊥ : EReal) < sOf V (ix1 M)
  max : ∀ i : Fin 5000, pOf V (ix1 i) ≠ 1#1 → (sOf V (ix1 i) : EReal) ≤ sOf V (ix1 M)
  first : ∀ i : Fin 5000, pOf V (ix1 i) ≠ 1#1 → (sOf V (ix1 i) : EReal) = sOf V (ix1 M) → M ≤ i

section

variable {V : Valuation τ sig (Elt Ideal)} {M : Fin 5000} (h : Chosen V M)

set_option maxRecDepth 8192 in
include h in
/-- The step's arg-max is `M`. -/
theorem v6_apply (j : S_.Idx) : (res_main_while0b_v6 V : IVec S_ 32) j = BitVec.ofNat 32 M.val := by
  have hmask : ∀ i : Fin 5000, (masked (pOf V) (sOf V) (ix1 i) : EReal) = if pOf V (ix1 i) = 1#1 then ⊥ else sOf V (ix1 i) :=
    fun i => masked_apply _ _ _
  have hMm := (hmask M).trans (if_neg h.fresh)
  refine (argmax_apply (masked (pOf V) (sOf V)) M (fun i => ?_) (fun i hi => ?_) ?_ j)
  · rw [hmask, hMm]
    by_cases hp : pOf V (ix1 i) = 1#1
    · rw [if_pos hp]; exact bot_le
    · rw [if_neg hp]; exact h.max i hp
  · rw [hmask, hMm] at hi
    by_cases hp : pOf V (ix1 i) = 1#1
    · rw [if_pos hp] at hi; exact absurd hi h.pos.ne
    · rw [if_neg hp] at hi; exact h.first i hp hi
  · rw [hMm]; exact h.pos

include h in
/-- The wrapped index, read signed, is `M`. -/
theorem wrapped (j : S_.Idx) : (wrap (res_main_while0b_v6 V) j).toInt = (M.val : Int) := by
  have hM := M.isLt
  have ht : ((res_main_while0b_v6 V : IVec S_ 32) j).toInt = (M.val : Int) := by
    rw [v6_apply h]; exact toInt_ofNat_of_lt (by omega)
  exact wrap_of_nonneg _ _ ht

include h in
/-- The index the step scatters at, read signed, is `M`. -/
theorem landing : (broadcastInDim S1 ![] bcast_S_S1 (wrap (res_main_while0b_v6 V)) (ix1 0)).toInt = (M.val : Int) :=
  (congrArg BitVec.toInt (broadcastInDim_scalar_apply bcast_S_S1 (wrap (res_main_while0b_v6 V)) (ix1 0))).trans (wrapped h ix0)

include h in
/-- The box the step reads is box `M`. -/
theorem v14_apply (k : Fin 4) : (res_main_while0b_v14 V : FVec Ideal S4 .f32) (ix1 k) = bOf V (ix2 M k) := by
  unfold res_main_while0b_v14
  have hw := wrapped h (Shape.Idx.first h_S_)
  unfold wrap at hw
  exact row_apply_words (bOf V) M _ _ _ hw rfl k

include h in
/-- The overlap of box `M` with every box. -/
theorem v71_apply (e : Fin 5000) :
    ((res_main_while0b_v71 V : FVec Ideal S5000 .f32) (ix1 e) : EReal)
      = iou (bOf V (ix2 M 0)) (bOf V (ix2 M 1)) (bOf V (ix2 M 2)) (bOf V (ix2 M 3))
          (bOf V (ix2 e 0)) (bOf V (ix2 e 1)) (bOf V (ix2 e 2)) (bOf V (ix2 e 3)) := by
  have hb : ∀ (k : ℕ) (hk : k < 4) (hs : S4.Slices ![k] S1) (j : S_.Idx),
      shapeCast S_ (extractStridedSlice S1 ![k] (res_main_while0b_v14 V : FVec Ideal S4 .f32) hs) shapeCasts_S1_S_ j = bOf V (ix2 M ⟨k, hk⟩) :=
    fun k hk hs j => (entry_apply _ k hk hs _ j).trans (v14_apply h _)
  have hc : ∀ (k : ℕ) (hk : k < 4) (hs : S5000x4.Slices ![0, k] S5000x1),
      shapeCast S5000 (extractStridedSlice S5000x1 ![0, k] (bOf V) hs) shapeCasts_S5000x1_S5000 (ix1 e) = bOf V (ix2 e ⟨k, hk⟩) :=
    fun k hk hs => col_apply (bOf V) k hk hs _ e
  have h43 : ((res_main_while0b_v43 V : FVec Ideal S5000 .f32) (ix1 e) : EReal)
      = inter (bOf V (ix2 M 0)) (bOf V (ix2 M 1)) (bOf V (ix2 M 2)) (bOf V (ix2 M 3))
          (bOf V (ix2 e 0)) (bOf V (ix2 e 1)) (bOf V (ix2 e 2)) (bOf V (ix2 e 3)) := by
    unfold res_main_while0b_v43
    refine (inter_read _ _ _ _ _ _ _ _ (ix1 e)).trans ?_
    rw [hb 0 (by decide), hb 1 (by decide), hb 2 (by decide), hb 3 (by decide),
      hc 0 (by decide), hc 1 (by decide), hc 2 (by decide), hc 3 (by decide)]
    rfl
  unfold res_main_while0b_v71
  refine (iou_read _ _ _ _ _ _ _ _ _ (ix1 e)).trans ?_
  rw [hb 0 (by decide), hb 1 (by decide), hb 2 (by decide), hb 3 (by decide),
    hc 0 (by decide), hc 1 (by decide), hc 2 (by decide), hc 3 (by decide), h43]
  rfl

include h in
/-- The scores after the step. -/
theorem step_at (e : Fin 5000) :
    ((step_main_v1_2 V : FVec Ideal S5000 .f32) (ix1 e) : EReal) = sOf V (ix1 e) *
      (if e = M then 1 else if pOf V (ix1 e) = 1#1 then 1 else
        decay (iou (bOf V (ix2 M 0)) (bOf V (ix2 M 1)) (bOf V (ix2 M 2)) (bOf V (ix2 M 3))
          (bOf V (ix2 e 0)) (bOf V (ix2 e 1)) (bOf V (ix2 e 2)) (bOf V (ix2 e 3)))) := by
  rw [scores_eq]
  refine congrArg (fun d : EReal => (sOf V (ix1 e) : EReal) * d) ?_
  refine (scatter_at _ _ _ M (landing h) e).trans ?_
  rw [factors_apply, v71_apply h]
  exact congrArg (fun d : EReal => if e = M then d else _) one_const

include h in
/-- The processed flags after the step. -/
theorem flag_at (e : Fin 5000) : (step_main_v1_3 V : IVec S5000 1) (ix1 e) = if e = M then 1#1 else pOf V (ix1 e) := by
  rw [flags_eq]
  exact scatter_at _ _ _ M (landing h) e

end

end Cert.Math

end
-- ==== Proof.Math.Joint.lean ====
/-
  The kernel's loop and the reference's 5000 steps side by side, at the extended reals. While the kernel's maximum is above
  the threshold, one trip and one step keep `Joint`: an unprocessed box has the same score on both sides, and a processed
  box's output is the reference's score. Each trip processes one more box, so the loop makes at most 5000 trips
  (`loop_joint`). Once the maximum is at most the threshold the reference goes on, but whatever boxes it chooses it only
  moves scores that are at most the threshold (`Settled`), so both sides end with the same thresholded scores.
-/
module

public import proofs.«01_k».proof.Proof.Math.Trip
public import proofs.«01_k».proof.Proof.Math.RefTrip

@[expose] public section

noncomputable section

namespace Cert.Math

open Cert.KernelIdeal (S8x640 S1x1)
open Cert.KernelIdeal.Gen (k0_pay6 k0_pay16)
open Cert.ReferenceIdeal (S5000 S5000x4 τ sig)
open Cert.RefRun Cert.Ker
open Idealize.ShloMosaic Idealize.ShloMosaic.TcCoe Idealize.ShloMosaic.ValueIdx

/-- The tile entry of box `e`. -/
def at' (e : Fin 5000) : S8x640.Idx :=
  ix2 (n0 := 8) (n1 := 640) ⟨e.val / 640, by have := e.isLt; omega⟩ ⟨e.val % 640, Nat.mod_lt _ (by decide)⟩

theorem flat_at (e : Fin 5000) : flat (at' e) = e.val := by
  show e.val / 640 * 640 + e.val % 640 = e.val
  omega

theorem at_inj {e e' : Fin 5000} (h : at' e = at' e') : e = e' :=
  Fin.ext (by rw [← flat_at e, ← flat_at e', h])

/-- A tile entry is a box's or padding. -/
theorem at_or_pad (j : S8x640.Idx) : (∃ e, j = at' e) ∨ 5000 ≤ flat j := by
  by_cases h : flat j < 5000
  · exact Or.inl ⟨⟨flat j, h⟩, flat_inj (flat_at ⟨flat j, h⟩).symm⟩
  · exact Or.inr (by omega)

theorem at_ne_pad (e : Fin 5000) {j : S8x640.Idx} (h : 5000 ≤ flat j) : j ≠ at' e := fun q => by
  have h1 := flat_at e
  have h2 := e.isLt
  rw [q] at h; omega

/-- The two sides agree: working scores and outputs of the kernel, carried buffers of the reference. -/
structure Joint (w out : FVec Ideal S8x640 .f32) (V : Valuation τ sig (Elt Ideal)) : Prop where
  free : ∀ e : Fin 5000, pOf V (ix1 e) ≠ 1#1 → (w (at' e) : EReal) = sOf V (ix1 e) ∧ (out (at' e) : EReal) = 0
  done : ∀ e : Fin 5000, pOf V (ix1 e) = 1#1 → (w (at' e) : EReal) ≤ 0 ∧ (out (at' e) : EReal) = sOf V (ix1 e)
  pad : ∀ j, 5000 ≤ flat j → (w j : EReal) ≤ 0

theorem sOf_STEP (V : Valuation τ sig (Elt Ideal)) : sOf (STEP V) = (step_main_v1_2 V : FVec Ideal S5000 .f32) := STEP_main_v1_2 V
theorem pOf_STEP (V : Valuation τ sig (Elt Ideal)) : pOf (STEP V) = (step_main_v1_3 V : IVec S5000 1) := STEP_main_v1_3 V
theorem bOf_STEP (V : Valuation τ sig (Elt Ideal)) : bOf (STEP V) = bOf V := STEP_main_v1_0 V

/-- The boxes not processed yet. -/
def left (V : Valuation τ sig (Elt Ideal)) : Finset (Fin 5000) := Finset.univ.filter fun e => pOf V (ix1 e) ≠ 1#1

/-- While the maximum is above the threshold, the reference chooses the box whose entry holds the first maximum. -/
theorem chosen_of_joint {w out : FVec Ideal S8x640 .f32} {V : Valuation τ sig (Elt Ideal)} (h : Joint w out V)
    {J : S8x640.Idx} (hJ : First w (tileMax w) J) (ht : thr < (tileMax w : EReal)) : ∃ M, J = at' M ∧ Chosen V M := by
  have hpos : (0 : EReal) < w J := by rw [hJ.eq]; exact thr_pos.trans ht
  rcases at_or_pad J with ⟨M, rfl⟩ | hp
  · have hM : pOf V (ix1 M) ≠ 1#1 := fun q => absurd (h.done M q).1 (not_le.mpr hpos)
    have hs := (h.free M hM).1
    refine ⟨M, rfl, hM, ?_, fun i hi => ?_, fun i hi hi' => ?_⟩
    · rw [← hs]; exact EReal.bot_lt_zero.trans hpos
    · rw [← hs, ← (h.free i hi).1, hJ.eq]; exact le_tileMax w _
    · rw [← hs, ← (h.free i hi).1, hJ.eq] at hi'
      have := hJ.le _ hi'
      rw [flat_at, flat_at] at this
      exact this
  · exact absurd (h.pad J hp) (not_le.mpr hpos)

section

variable {x1 y1 x2 y2 area : FVec Ideal S8x640 .f32} (harea : ∀ j, (area j : EReal) = (x2 j - x1 j) * (y2 j - y1 j))

include harea in
/-- One trip and one step. -/
theorem joint_trip {w out : FVec Ideal S8x640 .f32} {V : Valuation τ sig (Elt Ideal)} (h : Joint w out V)
    (hb : ∀ M e : Fin 5000, iouAt x1 y1 x2 y2 (at' M) (at' e)
      = iou (bOf V (ix2 M 0)) (bOf V (ix2 M 1)) (bOf V (ix2 M 2)) (bOf V (ix2 M 3))
          (bOf V (ix2 e 0)) (bOf V (ix2 e 1)) (bOf V (ix2 e 2)) (bOf V (ix2 e 3)))
    (ht : thr < (tileMax w : EReal)) :
    Joint (tripW x1 y1 x2 y2 area (mkCarry w out)) (k0_pay16 k0_pay6 w out (broadcast S1x1 (tileMax w) : FVec Ideal S1x1 .f32)) (STEP V)
      ∧ (left (STEP V)).card < (left V).card := by
  obtain ⟨J, hJ⟩ := exists_first w
  obtain ⟨M, rfl, hM⟩ := chosen_of_joint h hJ ht
  have hw := tripW_apply x1 y1 x2 y2 area harea w out hJ
  have ho := out_apply hJ out
  have hp : ∀ e, pOf (STEP V) (ix1 e) = if e = M then 1#1 else pOf V (ix1 e) := fun e => by rw [pOf_STEP]; exact flag_at hM e
  have hs := fun e => (congrFun (sOf_STEP V) (ix1 e)).trans (step_at hM e)
  refine ⟨⟨fun e he => ?_, fun e he => ?_, fun j hj => ?_⟩, ?_⟩
  · have hne : e ≠ M := fun q => he (by rw [hp, if_pos q])
    have hne' : at' e ≠ at' M := fun q => hne (at_inj q)
    rw [hp, if_neg hne] at he
    rw [hw, ho, if_neg hne', if_neg hne', hs, if_neg hne, if_neg he, hb, (h.free e he).1]
    exact ⟨rfl, (h.free e he).2⟩
  · by_cases hne : e = M
    · subst hne
      rw [hw, ho, if_pos rfl, if_pos rfl, hs, if_pos rfl, mul_one, ← hJ.eq]
      exact ⟨bot_le, (h.free e hM.fresh).1⟩
    · have hne' : at' e ≠ at' M := fun q => hne (at_inj q)
      rw [hp, if_neg hne] at he
      rw [hw, ho, if_neg hne', if_neg hne', hs, if_neg hne, if_pos he, mul_one]
      exact ⟨mul_nonpos_of (h.done e he).1 (decay_nonneg _), (h.done e he).2⟩
  · rw [hw, if_neg (at_ne_pad M hj)]
    exact mul_nonpos_of (h.pad j hj) (decay_nonneg _)
  · refine Finset.card_lt_card ⟨fun e he => ?_, fun hsub => ?_⟩
    · have he' := (Finset.mem_filter.mp he).2
      refine Finset.mem_filter.mpr ⟨Finset.mem_univ _, fun q => he' ?_⟩
      rw [hp]
      split
      · rfl
      · exact q
    · have := (Finset.mem_filter.mp (hsub (Finset.mem_filter.mpr ⟨Finset.mem_univ M, hM.fresh⟩))).2
      exact this (by rw [hp, if_pos rfl])

/-- The comparison with the threshold. -/
theorem ogt_thr (x : Ideal .f32) : Scalar.cmpf .ogt x (Scalar.ofBits .f32 0x3D4CCCCD#32) = BitVec.ofBool (decide (thr < (x : EReal))) := rfl

theorem carry_w (w out : FVec Ideal S8x640 .f32) : (mkCarry w out).1 = w := rfl
theorem carry_out (w out : FVec Ideal S8x640 .f32) : (mkCarry w out).2.1 = out := rfl
theorem carry_max (w out : FVec Ideal S8x640 .f32) : (mkCarry w out).2.2.1 = broadcast S1x1 (tileMax w) := by unfold mkCarry; dsimp only

/-- The loop's test at a carry whose maximum is read off its working scores. -/
theorem again_iff (w out : FVec Ideal S8x640 .f32) : Again (mkCarry w out) ↔ thr < (tileMax w : EReal) := by
  have e : (mkCarry w out).2.2.2 = tileMax w := by
    unfold mkCarry; dsimp only; unfold extractAt; rw [broadcast_apply]
  show Scalar.cmpf .ogt (mkCarry w out).2.2.2 (Scalar.ofBits .f32 0x3D4CCCCD#32) = 1#1 ↔ _
  rw [e, ogt_thr]
  by_cases h : thr < (tileMax w : EReal)
  · rw [decide_eq_true h]; exact ⟨fun _ => h, fun _ => rfl⟩
  · rw [decide_eq_false h]; exact ⟨fun q => absurd q (by decide), fun q => absurd q h⟩

include harea in
/-- The loop makes at most as many trips as there are unprocessed boxes, and after them the two sides agree and the maximum
    is at most the threshold. -/
theorem loop_joint (n : ℕ) : ∀ (w out : FVec Ideal S8x640 .f32) (V : Valuation τ sig (Elt Ideal)), Joint w out V →
    (∀ M e : Fin 5000, iouAt x1 y1 x2 y2 (at' M) (at' e)
      = iou (bOf V (ix2 M 0)) (bOf V (ix2 M 1)) (bOf V (ix2 M 2)) (bOf V (ix2 M 3))
          (bOf V (ix2 e 0)) (bOf V (ix2 e 1)) (bOf V (ix2 e 2)) (bOf V (ix2 e 3))) →
    (left V).card ≤ n →
    ∃ k, k ≤ n ∧ Runs x1 y1 x2 y2 area k (mkCarry w out) ∧ ∃ w' out' : FVec Ideal S8x640 .f32,
      (trip x1 y1 x2 y2 area)^[k] (mkCarry w out) = mkCarry w' out' ∧ Joint w' out' (STEP^[k] V) ∧ (tileMax w' : EReal) ≤ thr := by
  induction n with
  | zero =>
    intro w out V h hb hn
    have ht : ¬ thr < (tileMax w : EReal) := fun ht => by
      have := (joint_trip harea h hb ht).2
      omega
    exact ⟨0, le_refl _, fun q => ht ((again_iff w out).mp q), w, out, rfl, h, not_lt.mp ht⟩
  | succ n ih =>
    intro w out V h hb hn
    by_cases ht : thr < (tileMax w : EReal)
    · obtain ⟨h', hc⟩ := joint_trip harea h hb ht
      obtain ⟨k, hk, hr, w', out', e, hj, hm⟩ := ih _ _ _ h' (by rw [bOf_STEP]; exact hb) (by omega)
      have et : trip x1 y1 x2 y2 area (mkCarry w out)
          = mkCarry (tripW x1 y1 x2 y2 area (mkCarry w out)) (k0_pay16 k0_pay6 w out (broadcast S1x1 (tileMax w) : FVec Ideal S1x1 .f32)) := by
        rw [trip_eq, carry_w, carry_out, carry_max]
      refine ⟨k + 1, by omega, ⟨(again_iff w out).mpr ht, by rw [et]; exact hr⟩, w', out', ?_, ?_, hm⟩
      · rw [Function.iterate_succ_apply, et, e]
      · rw [Function.iterate_succ_apply]; exact hj
    · exact ⟨0, Nat.zero_le _, fun q => ht ((again_iff w out).mp q), w, out, rfl, h, not_lt.mp ht⟩

/-- The number of trips is determined. -/
theorem runs_unique (k : ℕ) : ∀ (k' : ℕ) (s : Carry Ideal), Runs x1 y1 x2 y2 area k s → Runs x1 y1 x2 y2 area k' s → k = k' := by
  induction k with
  | zero =>
    intro k' s h h'
    cases k' with
    | zero => rfl
    | succ k' => exact absurd h'.1 h
  | succ k ih =>
    intro k' s h h'
    cases k' with
    | zero => exact absurd h.1 h'
    | succ k' => rw [ih k' _ h.2 h'.2]

end

/-- After the kernel's loop: a box's score is its output's and stays, or both are at most the threshold. -/
def Settled (out : FVec Ideal S8x640 .f32) (V : Valuation τ sig (Elt Ideal)) : Prop :=
  ∀ e : Fin 5000, (pOf V (ix1 e) = 1#1 ∧ (out (at' e) : EReal) = sOf V (ix1 e))
    ∨ ((sOf V (ix1 e) : EReal) ≤ thr ∧ (out (at' e) : EReal) ≤ thr)

theorem settled_of_joint {w out : FVec Ideal S8x640 .f32} {V : Valuation τ sig (Elt Ideal)} (h : Joint w out V)
    (ht : (tileMax w : EReal) ≤ thr) : Settled out V := fun e => by
  by_cases hp : pOf V (ix1 e) = 1#1
  · exact Or.inl ⟨hp, (h.done e hp).2⟩
  · refine Or.inr ⟨?_, ?_⟩
    · rw [← (h.free e hp).1]; exact (le_tileMax w _).trans ht
    · rw [(h.free e hp).2]; exact thr_pos.le

theorem settled_step {out : FVec Ideal S8x640 .f32} {V : Valuation τ sig (Elt Ideal)} (h : Settled out V) : Settled out (STEP V) := fun e => by
  obtain ⟨d, hd, hc⟩ := step_any V (ix1 e)
  have hs : (sOf (STEP V) (ix1 e) : EReal) = sOf V (ix1 e) * d := (congrFun (sOf_STEP V) (ix1 e)).trans hd
  rcases h e with ⟨hp, ho⟩ | ⟨h1, h2⟩
  · refine Or.inl ⟨by rw [pOf_STEP]; exact step_keeps V _ hp, ?_⟩
    rcases hc with rfl | ⟨hn, _⟩
    · rw [hs, mul_one]; exact ho
    · exact absurd hp hn
  · refine Or.inr ⟨?_, h2⟩
    rw [hs]
    rcases hc with rfl | ⟨_, q, rfl⟩
    · rw [mul_one]; exact h1
    · exact mul_le_thr h1 (decay_nonneg q) (decay_le_one q)

theorem settled_steps {out : FVec Ideal S8x640 .f32} (n : ℕ) : ∀ {V : Valuation τ sig (Elt Ideal)}, Settled out V → Settled out (STEP^[n] V) := by
  induction n with
  | zero => exact fun h => h
  | succ n ih =>
    intro V h
    rw [Function.iterate_succ_apply]
    exact ih (settled_step h)

/-- A score kept when it is above the threshold. -/
def kept (x : EReal) : EReal := if thr < x then x else 0

theorem kept_eq {out : FVec Ideal S8x640 .f32} {V : Valuation τ sig (Elt Ideal)} (h : Settled out V) (e : Fin 5000) :
    kept (out (at' e)) = kept (sOf V (ix1 e)) := by
  rcases h e with ⟨_, ho⟩ | ⟨h1, h2⟩
  · rw [ho]
  · unfold kept
    rw [if_neg (not_lt.mpr h1), if_neg (not_lt.mpr h2)]

end Cert.Math

end
-- ==== Proof.Math.Ends.lean ====
/-
  The two ends of the kernel's loop. It starts from the padded columns and scores, which agree with the reference's carried
  buffers before its first step (`joint_start`), so it halts (`halts`), and the first 5000 thresholded outputs are the
  reference's thresholded scores after 5000 steps (`result_apply`).
-/
module

public import proofs.«01_k».proof.Proof.Ker.Value
public import proofs.«01_k».proof.Proof.Math.Joint
public import Idealize.ShloMosaic.Lib.KernelVsHost

@[expose] public section

noncomputable section

namespace Cert.Math

open Cert.KernelIdeal (S8x640 S1x1 S5120 S_)
open Cert.KernelIdeal.Gen
open Cert.ReferenceIdeal (S5000 S5000x4 τ sig)
open Cert.RefRun Cert.Ker
open Idealize.ShloMosaic Idealize.ShloMosaic.TcCoe Idealize.ShloMosaic.ValueIdx

/-- A tile's entry is the flat vector's. -/
theorem tile_apply {α : Type} (x : S5120.Idx → α) (h : S5120.ShapeCasts S8x640) (j : S8x640.Idx) :
    shapeCast S8x640 x h j = x (ix1 ⟨flat j, flat_lt j⟩) :=
  shapeCast_apply _ _ _ _ (by
    rw [Shape.rowMajor_val_two, Shape.rowMajor_val_one]
    rfl)

theorem padTile_at (v : FVec Ideal S_ .f32) (x : FVec Ideal S5000 .f32) (e : Fin 5000) : padTile v x (at' e) = x (ix1 e) := by
  unfold padTile
  rw [tile_apply]
  refine pad_apply_of_inside _ _ _ _ _ _ _ _ (ix1 e) fun a => ?_
  fin_cases a
  show flat (at' e) = 0 + e.val * (0 + 1)
  rw [flat_at]; omega

theorem padTile_pad (v : FVec Ideal S_ .f32) (x : FVec Ideal S5000 .f32) (j : S8x640.Idx) (hj : 5000 ≤ flat j) : padTile v x j = v ix0 := by
  unfold padTile
  rw [tile_apply]
  refine (pad_apply_of_not_inside _ _ _ _ _ _ _ _ 0 fun q => ?_).trans (congrArg v (eq_ix0 _))
  have h2 : (flat j - 0) / (0 + 1) < 5000 := q.2.2
  omega

theorem pay1_eq (v : FVec Ideal S8x640 .f32) : k0_pay1 v = v := by unfold k0_pay1; exact shapeCast_self _ _
theorem pay2_eq (v : FVec Ideal S8x640 .f32) : k0_pay2 v = v := by unfold k0_pay2; exact shapeCast_self _ _
theorem pay3_eq (v : FVec Ideal S8x640 .f32) : k0_pay3 v = v := by unfold k0_pay3; exact shapeCast_self _ _
theorem pay4_eq (v : FVec Ideal S8x640 .f32) : k0_pay4 v = v := by unfold k0_pay4; exact shapeCast_self _ _
theorem pay7_eq (v : FVec Ideal S8x640 .f32) : k0_pay7 v = v := by unfold k0_pay7; exact shapeCast_self _ _

theorem pay5_apply (v0 v2 v4 v6 : FVec Ideal S8x640 .f32) (j : S8x640.Idx) :
    (k0_pay5 (F := Ideal) v0 v2 v4 v6 j : EReal) = ((k0_pay3 (F := Ideal) v4 j : EReal) - k0_pay1 (F := Ideal) v0 j) * ((k0_pay4 (F := Ideal) v6 j : EReal) - k0_pay2 (F := Ideal) v2 j) := by unfold k0_pay5; rfl

theorem pay8_apply (j : S8x640.Idx) : ((k0_pay8 : FVec Ideal S8x640 .f32) j : EReal) = 0 := by
  unfold k0_pay8; exact Ideal.ofBits_zero_f32

theorem pay11_apply (o : FVec Ideal S8x640 .f32) (j : S8x640.Idx) : (k0_pay11 o j : EReal) = kept (o j) := by
  unfold k0_pay11 kept
  show (Scalar.select (BitVec.ofBool (decide (thr < (o j : EReal)))) (o j) (Ideal.ofBits .f32 0x00000000#32) : EReal) = _
  by_cases h : thr < (o j : EReal)
  · rw [decide_eq_true h, if_pos h]; rfl
  · rw [decide_eq_false h, if_neg h]; exact Ideal.ofBits_zero_f32

theorem infPad_eq : (infPad ix0 : Ideal .f32) = (⊥ : EReal) := ofBits_negInf

section

variable (b : FVec Ideal S5000x4 .f32) (s : FVec Ideal S5000 .f32)

theorem colX1_apply (e : Fin 5000) : colX1 b (ix1 e) = b (ix2 e 0) := col_apply b 0 (by decide) _ _ e
theorem colY1_apply (e : Fin 5000) : colY1 b (ix1 e) = b (ix2 e 1) := col_apply b 1 (by decide) _ _ e
theorem colX2_apply (e : Fin 5000) : colX2 b (ix1 e) = b (ix2 e 2) := col_apply b 2 (by decide) _ _ e
theorem colY2_apply (e : Fin 5000) : colY2 b (ix1 e) = b (ix2 e 3) := col_apply b 3 (by decide) _ _ e

variable (V : Valuation τ sig (Elt Ideal)) (hb : bOf V = b) (hs : sOf V = s) (hp : ∀ i, pOf V i = 0#1)

include hs hp in
/-- Before the first trip and the first step. -/
theorem joint_start : Joint (k0_pay7 (padTile infPad s)) k0_pay8 V := by
  rw [pay7_eq]
  refine ⟨fun e _ => ⟨?_, pay8_apply _⟩, fun e he => ?_, fun j hj => ?_⟩
  · rw [padTile_at, hs]
  · rw [hp] at he; exact absurd he (by decide)
  · rw [padTile_pad _ _ _ hj, infPad_eq]; exact bot_le

include hb in
/-- The overlaps the kernel sees are the reference's. -/
theorem overlaps (M e : Fin 5000) :
    iouAt (k0_pay1 (padTile zeroPad (colX1 b))) (k0_pay2 (padTile zeroPad (colY1 b))) (k0_pay3 (padTile zeroPad (colX2 b)))
        (k0_pay4 (padTile zeroPad (colY2 b))) (at' M) (at' e)
      = iou (bOf V (ix2 M 0)) (bOf V (ix2 M 1)) (bOf V (ix2 M 2)) (bOf V (ix2 M 3))
          (bOf V (ix2 e 0)) (bOf V (ix2 e 1)) (bOf V (ix2 e 2)) (bOf V (ix2 e 3)) := by
  unfold iouAt
  rw [pay1_eq, pay2_eq, pay3_eq, pay4_eq]
  simp only [padTile_at]
  rw [colX1_apply, colY1_apply, colX2_apply, colY2_apply, colX1_apply, colY1_apply, colX2_apply, colY2_apply, hb]

include hb hs hp in
/-- The loop from the start: at most 5000 trips, and then the two sides agree. -/
theorem whole : ∃ k, k ≤ 5000
    ∧ Runs (k0_pay1 (padTile zeroPad (colX1 b))) (k0_pay2 (padTile zeroPad (colY1 b))) (k0_pay3 (padTile zeroPad (colX2 b)))
        (k0_pay4 (padTile zeroPad (colY2 b)))
        (k0_pay5 (padTile zeroPad (colX1 b)) (padTile zeroPad (colY1 b)) (padTile zeroPad (colX2 b)) (padTile zeroPad (colY2 b)))
        k (start (padTile infPad s))
    ∧ ∃ w' out' : FVec Ideal S8x640 .f32,
      (trip (k0_pay1 (padTile zeroPad (colX1 b))) (k0_pay2 (padTile zeroPad (colY1 b))) (k0_pay3 (padTile zeroPad (colX2 b)))
        (k0_pay4 (padTile zeroPad (colY2 b)))
        (k0_pay5 (padTile zeroPad (colX1 b)) (padTile zeroPad (colY1 b)) (padTile zeroPad (colX2 b)) (padTile zeroPad (colY2 b))))^[k]
        (start (padTile infPad s)) = mkCarry w' out' ∧ Joint w' out' (STEP^[k] V) ∧ (tileMax w' : EReal) ≤ thr := by
  rw [start_eq]
  exact loop_joint (pay5_apply _ _ _ _) 5000 _ _ V (joint_start s V hs hp) (overlaps b V hb)
    ((Finset.card_le_univ _).trans (le_of_eq (Fintype.card_fin 5000)))

include hb hs hp in
theorem halts : HaltsOf b s := (whole b s V hb hs hp).elim fun k h => ⟨k, h.2.1⟩

include hb hs hp in
/-- The loop's outputs, thresholded, are the reference's scores after 5000 steps, thresholded. -/
theorem final_apply (e : Fin 5000) : kept ((finalOf b s).2.1 (at' e)) = kept (sOf (STEP^[5000] V) (ix1 e)) := by
  obtain ⟨k, hk, hr, w', out', he, hj, hm⟩ := whole b s V hb hs hp
  have hk' := runs_unique _ k _ (runs_trips _ _ _ _ _ (halts b s V hb hs hp)) hr
  have hf : finalOf b s = mkCarry w' out' := by
    unfold finalOf final
    rw [hk']; exact he
  rw [hf, carry_out]
  have h := settled_steps (5000 - k) (settled_of_joint hj hm)
  rw [← Function.iterate_add_apply, Nat.sub_add_cancel hk] at h
  exact kept_eq h e

/-- The reference's last host lines. -/
theorem out_main_v4_apply (W : Valuation τ sig (Elt Ideal)) (i : S5000.Idx) :
    ((out_main_v4 W : FVec Ideal S5000 .f32) i : EReal) = kept (sOf W i) := by
  unfold out_main_v4 kept
  show (Scalar.select (BitVec.ofBool (decide (thr < (sOf W i : EReal)))) (sOf W i) (Ideal.ofBits .f32 0x00000000#32) : EReal) = _
  by_cases h : thr < (sOf W i : EReal)
  · rw [decide_eq_true h, if_pos h]; rfl
  · rw [decide_eq_false h, if_neg h]; exact Ideal.ofBits_zero_f32

/-- An entry of the kernel's result. -/
theorem result_at (e : Fin 5000) : (result b s (ix1 e) : EReal) = kept ((finalOf b s).2.1 (at' e)) := by
  have he := e.isLt
  unfold result
  refine ((extractStridedSlice_apply _ _ _ _ (ix1 (n := 5120) ⟨e.val, by omega⟩) fun a => ?_).trans
    (shapeCast_apply _ _ _ (at' e) ?_)).trans (pay11_apply _ _)
  · fin_cases a
    show e.val = 0 + e.val
    omega
  · rw [Shape.rowMajor_val_two, Shape.rowMajor_val_one]
    exact flat_at e

include hb hs hp in
/-- The kernel's result is the reference's. -/
theorem result_eq : result b s = (out_main_v4 (STEP^[5000] V) : FVec Ideal S5000 .f32) := funext fun i => by
  rw [eq_ix1 i]
  exact (result_at b s (i 0)).trans ((final_apply b s V hb hs hp (i 0)).trans (out_main_v4_apply _ _).symm)

end

end Cert.Math

end
-- ==== Proof.Math.Equal.lean ====
/-
  The certificate's claims from the two runs: the reference's carried buffers before its first step are its arguments and no
  processed box, so the kernel's loop halts from any arguments and the two results are equal.
-/
module

public import proofs.«01_k».proof.Defs
public import proofs.«01_k».proof.Proof.Math.Ends
public import Idealize.ShloMosaic.Lib.Quiescent

@[expose] public section

noncomputable section

namespace Cert.Math

open Cert.RefRun
open Idealize.ShloMosaic Idealize.ShloMosaic.TcCoe Idealize.ShloMosaic.ValueIdx Idealize.ShloMosaic.Tactic
open Idealize.ShloMosaic.StableHlo
open Idealize.SL.Sem

section

open Cert.ReferenceIdeal Cert.ReferenceIdeal.Gen

variable (m : (ℓ : Loc nD τ sig) → Buf (Elt Ideal) ℓ) (c : Dev nD)

theorem entry_boxes : bOf (entryContents preI m c) = (m ((c.tc : Thread nD τ).loc main_arg0) : FVec Ideal S5000x4 .f32) := by
  simp only [bOf, entryContents, afterL_cons, afterL_nil]
  after_reads_simp
  rfl

theorem entry_scores : sOf (entryContents preI m c) = (m ((c.tc : Thread nD τ).loc main_arg1) : FVec Ideal S5000 .f32) := by
  simp only [sOf, entryContents, afterL_cons, afterL_nil]
  after_reads_simp
  rfl

theorem entry_flags (i : S5000.Idx) : pOf (entryContents preI m c) i = 0#1 := by
  have h : entryContents preI m c (Proc.devRef .tc main_v1_3) = fun _ => (0#1 : BitVec 1) := by
    simp only [entryContents, afterL_cons, afterL_nil]
    after_reads_simp
    rfl
  exact congrFun h i

end

open Cert.ReferenceIdeal in
/-- The kernel's loop halts from any boxes and scores. -/
theorem halts_any (b : FVec Ideal S5000x4 .f32) (s : FVec Ideal S5000 .f32) : Cert.Ker.HaltsOf b s := by
  let V : Valuation τ sig (Elt Ideal) := Function.update (Function.update (Function.update (fun _ _ => default)
    (Proc.devRef .tc main_v1_0) b) (Proc.devRef .tc main_v1_2) s) (Proc.devRef .tc main_v1_3) (fun _ => (0#1 : BitVec 1))
  refine halts b s V ?_ ?_ fun i => ?_
  · show V (Proc.devRef .tc main_v1_0) = b
    unfold V
    rw [Function.update_of_ne (devRef_ne_of_ne (by decide)), Function.update_of_ne (devRef_ne_of_ne (by decide)), Function.update_self]
  · show V (Proc.devRef .tc main_v1_2) = s
    unfold V
    rw [Function.update_of_ne (devRef_ne_of_ne (by decide)), Function.update_self]
  · have h : V (Proc.devRef .tc main_v1_3) = fun _ => (0#1 : BitVec 1) := Function.update_self ..
    exact congrFun h i

theorem frame_kernel : quiescent_KernelIdeal (hKernelIdeal := Cert.KernelIdeal.Gen.facts) := fun m g _ =>
  (θ_run _ _ _).mono (fun _ h => ⟨fun c => (h.1 c).2, h.2⟩) (Cert.Ker.run m g fun _ => halts_any _ _)

theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.RefRun.run m g)

theorem equal : algebraic_KernelIdeal_ReferenceIdeal (hKernelIdeal := Cert.KernelIdeal.Gen.facts) (hReferenceIdeal := Cert.ReferenceIdeal.Gen.facts) :=
  fun m g m' g' _ hm =>
  ⟨fun c => Cert.Ker.result (Cert.Ker.boxes m c) (Cert.Ker.scores m c),
    (θ_run _ _ _).mono (fun _ h c => h.1 c) (Cert.Ker.run m g fun _ => halts_any _ _),
    (θ_run _ _ _).mono (fun _ h c => ⟨(h c).1.trans (result_eq _ _ _ ((entry_boxes m' c).trans (hm c).1) ((entry_scores m' c).trans (hm c).2)
      (entry_flags m' c)).symm, (h c).2⟩) (Cert.RefRun.run m' g')⟩

end Cert.Math

end
-- ==== Proof.lean ====
/-
  The proof of `Cert.Claim`: the facts of the two programs, then the claims of Proof/Math/Equal.lean. The kernel's run is in
  Proof/Ker/, the reference's in Proof/Ref/, and the argument that the two results are equal in Proof/Math/.
-/
module

public import proofs.«01_k».proof.Defs
public import proofs.«01_k».proof.Proof.Math.Equal

@[expose] public section

noncomputable section

namespace Cert.Proof

theorem claim : Cert.Claim :=
  ⟨Cert.KernelIdeal.Gen.facts, Cert.ReferenceIdeal.Gen.facts, Cert.Math.frame_kernel, Cert.Math.frame_reference, Cert.Math.equal⟩

end Cert.Proof

end
